-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "qscale" .f32 0x3DD53B95#32 (((Real.sqrt 192)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v71)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v80)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v80) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v25)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v20)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "qscale" .f32 0x3E0293EE#32 (((Real.sqrt 128)⁻¹ * (Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v83)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v83) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v70)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v70) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v87)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v87) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v53) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4x2048x6144 : Shape := ⟨3, ![4, 2048, 6144]⟩
abbrev S4x2048x8192 : Shape := ⟨3, ![4, 2048, 8192]⟩
abbrev S4x2048x1600 : Shape := ⟨3, ![4, 2048, 1600]⟩
abbrev S4x2048 : Shape := ⟨2, ![4, 2048]⟩
abbrev S4x2048x32x256 : Shape := ⟨4, ![4, 2048, 32, 256]⟩
abbrev S4x2048x32x128 : Shape := ⟨4, ![4, 2048, 32, 128]⟩
abbrev S4x2048x64 : Shape := ⟨3, ![4, 2048, 64]⟩
abbrev S_ : Shape := ⟨0, ![]⟩

class Facts : Prop where
  shapeCasts_S4x2048x8192_S4x2048x32x256 : S4x2048x8192.ShapeCasts S4x2048x32x256
  slices_S4x2048x32x256_S4x2048x32x128_0_0_0_0 : S4x2048x32x256.Slices ![0, 0, 0, 0] S4x2048x32x128
  slices_S4x2048x1600_S4x2048x64_0_0_1536 : S4x2048x1600.Slices ![0, 0, 1536] S4x2048x64
  bcast_S_S4x2048x6144 : S_.BroadcastsInDim S4x2048x6144 (![] : Fin 0 → Fin S4x2048x6144.rank)
  bcast_S_S4x2048x32x128 : S_.BroadcastsInDim S4x2048x32x128 (![] : Fin 0 → Fin S4x2048x32x128.rank)
  bcast_S_S4x2048x64 : S_.BroadcastsInDim S4x2048x64 (![] : Fin 0 → Fin S4x2048x64.rank)

variable [Facts]

def fn {F : FTy → Type} [FloatOps F] (main_arg0 : FVec F S4x2048x6144 .f32) (main_arg1 : FVec F S4x2048x8192 .f32) (main_arg2 : FVec F S4x2048x1600 .f32) (main_arg3 : IVec S4x2048 32) : IVec S4x2048x6144 1 × IVec S4x2048x32x128 1 × IVec S4x2048x64 1 :=
  let main_v0 : FVec F S4x2048x32x256 .f32 := shapeCast S4x2048x32x256 main_arg1 shapeCasts_S4x2048x8192_S4x2048x32x256
  let main_v1 : FVec F S4x2048x32x128 .f32 := (extractStridedSlice S4x2048x32x128 ![0, 0, 0, 0] · slices_S4x2048x32x256_S4x2048x32x128_0_0_0_0) main_v0
  let main_v2 : FVec F S4x2048x64 .f32 := (extractStridedSlice S4x2048x64 ![0, 0, 1536] · slices_S4x2048x1600_S4x2048x64_0_0_1536) main_arg2
  let main_v3 : FVec F S4x2048x6144 .f32 := Host.absf main_arg0
  let main_cst : FVec F S_ .f32 := constant S_ .f32 0x7F800000#32
  let main_v4 : FVec F S4x2048x6144 .f32 := broadcastInDim S4x2048x6144 ![] bcast_S_S4x2048x6144 main_cst
  let main_v5 : IVec S4x2048x6144 1 := cmpf .olt main_v3 main_v4
  let main_v6 : FVec F S4x2048x32x128 .f32 := Host.absf main_v1
  let main_cst_0 : FVec F S_ .f32 := constant S_ .f32 0x7F800000#32
  let main_v7 : FVec F S4x2048x32x128 .f32 := broadcastInDim S4x2048x32x128 ![] bcast_S_S4x2048x32x128 main_cst_0
  let main_v8 : IVec S4x2048x32x128 1 := cmpf .olt main_v6 main_v7
  let main_v9 : FVec F S4x2048x64 .f32 := Host.absf main_v2
  let main_cst_1 : FVec F S_ .f32 := constant S_ .f32 0x7F800000#32
  let main_v10 : FVec F S4x2048x64 .f32 := broadcastInDim S4x2048x64 ![] bcast_S_S4x2048x64 main_cst_1
  let main_v11 : IVec S4x2048x64 1 := cmpf .olt main_v9 main_v10
  (main_v5, main_v8, main_v11)
-- ==== Kernel.lean ====
abbrev S4x2048x6144 : Shape := ⟨3, ![4, 2048, 6144]⟩
abbrev S4x2048x8192 : Shape := ⟨3, ![4, 2048, 8192]⟩
abbrev S4x2048x1600 : Shape := ⟨3, ![4, 2048, 1600]⟩
abbrev S4x2048 : Shape := ⟨2, ![4, 2048]⟩
abbrev S128 : Shape := ⟨1, ![128]⟩
abbrev S8192 : Shape := ⟨1, ![8192]⟩
abbrev S8192x1600 : Shape := ⟨2, ![8192, 1600]⟩
abbrev S_ : Shape := ⟨0, ![]⟩
abbrev S128x1 : Shape := ⟨2, ![128, 1]⟩
abbrev S8192x128 : Shape := ⟨2, ![8192, 128]⟩
abbrev S1x128 : Shape := ⟨2, ![1, 128]⟩
abbrev S8192x1536 : Shape := ⟨2, ![8192, 1536]⟩
abbrev S8192x1664 : Shape := ⟨2, ![8192, 1664]⟩
abbrev S8192x6144 : Shape := ⟨2, ![8192, 6144]⟩
abbrev S8192x1 : Shape := ⟨2, ![8192, 1]⟩
abbrev S8192x8192 : Shape := ⟨2, ![8192, 8192]⟩
abbrev S1x8192 : Shape := ⟨2, ![1, 8192]⟩
abbrev S8192x32x2x128 : Shape := ⟨4, ![8192, 32, 2, 128]⟩
abbrev S8192x2x32x128 : Shape := ⟨4, ![8192, 2, 32, 128]⟩
abbrev S8192x4096 : Shape := ⟨2, ![8192, 4096]⟩
abbrev S256x2048 : Shape := ⟨2, ![256, 2048]⟩
abbrev S2048x1024 : Shape := ⟨2, ![2048, 1024]⟩
abbrev S2048x128 : Shape := ⟨2, ![2048, 128]⟩
abbrev S256x128 : Shape := ⟨2, ![256, 128]⟩
abbrev S256x1024 : Shape := ⟨2, ![256, 1024]⟩
abbrev S8x2048x256 : Shape := ⟨3, ![8, 2048, 256]⟩
abbrev S1x2048x128 : Shape := ⟨3, ![1, 2048, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x512 : Shape := ⟨2, ![256, 512]⟩
abbrev S1x768x256 : Shape := ⟨3, ![1, 768, 256]⟩
abbrev S768x256 : Shape := ⟨2, ![768, 256]⟩
abbrev S256x768 : Shape := ⟨2, ![256, 768]⟩
abbrev S1x1024x256 : Shape := ⟨3, ![1, 1024, 256]⟩
abbrev S1024x256 : Shape := ⟨2, ![1024, 256]⟩
abbrev S1x1280x256 : Shape := ⟨3, ![1, 1280, 256]⟩
abbrev S1280x256 : Shape := ⟨2, ![1280, 256]⟩
abbrev S256x1280 : Shape := ⟨2, ![256, 1280]⟩
abbrev S1x1536x256 : Shape := ⟨3, ![1, 1536, 256]⟩
abbrev S1536x256 : Shape := ⟨2, ![1536, 256]⟩
abbrev S256x1536 : Shape := ⟨2, ![256, 1536]⟩
abbrev S1x1792x256 : Shape := ⟨3, ![1, 1792, 256]⟩
abbrev S1792x256 : Shape := ⟨2, ![1792, 256]⟩
abbrev S256x1792 : Shape := ⟨2, ![256, 1792]⟩
abbrev S1x2048x256 : Shape := ⟨3, ![1, 2048, 256]⟩
abbrev S2048x256 : Shape := ⟨2, ![2048, 256]⟩

abbrev nBuf : Space → Nat
  | .hbm => 58
  | .vmem => 21
  | .smem => 0
  | _ => 0

abbrev bufTy : (tb : Table) → Fin (tcTables nBuf tb) → BufTy
  | .hbm, ⟨0, _⟩ => ⟨S4x2048x6144, .f32⟩
  | .hbm, ⟨1, _⟩ => ⟨S4x2048x8192, .f32⟩
  | .hbm, ⟨2, _⟩ => ⟨S4x2048x1600, .f32⟩
  | .hbm, ⟨3, _⟩ => ⟨S4x2048, .i32⟩
  | .hbm, ⟨4, _⟩ => ⟨S128, .i32⟩
  | .hbm, ⟨5, _⟩ => ⟨S128, .i1⟩
  | .hbm, ⟨6, _⟩ => ⟨S128, .f32⟩
  | .hbm, ⟨7, _⟩ => ⟨S8192, .i32⟩
  | .hbm, ⟨8, _⟩ => ⟨S8192, .i1⟩
  | .hbm, ⟨9, _⟩ => ⟨S8192, .f32⟩
  | .hbm, ⟨10, _⟩ => ⟨S128, .f32⟩
  | .hbm, ⟨11, _⟩ => ⟨S128, .i1⟩
  | .hbm, ⟨12, _⟩ => ⟨S128, .f32⟩
  | .hbm, ⟨13, _⟩ => ⟨S8192x1600, .f32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x1536, .f32⟩
  | .hbm, ⟨24, _⟩ => ⟨S8192x1664, .f32⟩
  | .hbm, ⟨25, _⟩ => ⟨S8192x6144, .f32⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x32x2x128, .f32⟩
  | .hbm, ⟨36, _⟩ => ⟨S8192x2x32x128, .f32⟩
  | .hbm, ⟨37, _⟩ => ⟨S8192x8192, .f32⟩
  | .hbm, ⟨38, _⟩ => ⟨S8192x8192, .bf16⟩
  | .hbm, ⟨39, _⟩ => ⟨S8192x1, .i32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S8192x1, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S256x1024, .bf16⟩
  | .local _ .vmem, ⟨17, _⟩ => ⟨S256x1024, .bf16⟩
  | .local _ .vmem, ⟨18, _⟩ => ⟨S8x2048x256, .bf16⟩
  | .local _ .vmem, ⟨19, _⟩ => ⟨S8x2048x256, .bf16⟩
  | .local _ .vmem, ⟨20, _⟩ => ⟨S2048x128, .bf16⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_c_2 : Ref sig .tc := ⟨.hbm, 8, rfl⟩
abbrev main_cst_3 : Ref sig .tc := ⟨.hbm, 9, rfl⟩
abbrev main_cst_4 : Ref sig .tc := ⟨.hbm, 10, rfl⟩
abbrev main_c_5 : Ref sig .tc := ⟨.hbm, 11, rfl⟩
abbrev main_cst_6 : Ref sig .tc := ⟨.hbm, 12, rfl⟩
abbrev main_v0 : Ref sig .tc := ⟨.hbm, 13, rfl⟩
abbrev main_c_7 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_8 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c0_i32_8 : BitVec 32 := 0#32
  let v19 : BitVec 1 := Scalar.cmpi .eq arg2 c0_i32_8
  let v20 : BitVec 32 := Scalar.extui v19
  let c0_i32_9 : BitVec 32 := 0#32
  let v21 : BitVec 1 := Scalar.cmpi .ne v20 c0_i32_9
  v21

def k0_cond4 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_10 : BitVec 32 := 0#32
  let v24 : BitVec 1 := Scalar.cmpi .ne v23 c0_i32_10
  v24

def k0_cond5 (i : grid0.Coords) : BitVec 1 :=
  let arg2 : BitVec 32 := BitVec.ofNat 32 (i 2).val
  let c2_i32 : BitVec 32 := 2#32
  let v25 : BitVec 1 := Scalar.cmpi .eq arg2 c2_i32
  let v26 : BitVec 32 := Scalar.extui v25
  let c0_i32_11 : BitVec 32 := 0#32
  let v27 : BitVec 1 := Scalar.cmpi .ne v26 c0_i32_11
  v27

def k0_cond6 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_12 : BitVec 32 := 0#32
  let v30 : BitVec 1 := Scalar.cmpi .ne v29 c0_i32_12
  v30

def k0_cond7 (i : grid0.Coords) : BitVec 1 :=
  let arg2 : BitVec 32 := BitVec.ofNat 32 (i 2).val
  let c4_i32 : BitVec 32 := 4#32
  let v31 : BitVec 1 := Scalar.cmpi .eq arg2 c4_i32
  let v32 : BitVec 32 := Scalar.extui v31
  let c0_i32_13 : BitVec 32 := 0#32
  let v33 : BitVec 1 := Scalar.cmpi .ne v32 c0_i32_13
  v33

def k0_cond8 (i : grid0.Coords) : BitVec 1 :=
  let arg2 : BitVec 32 := BitVec.ofNat 32 (i 2).val
  let c5_i32 : BitVec 32 := 5#32
  let v34 : BitVec 1 := Scalar.cmpi .eq arg2 c5_i32
  let v35 : BitVec 32 := Scalar.extui v34
  let c0_i32_14 : BitVec 32 := 0#32
  let v36 : BitVec 1 := Scalar.cmpi .ne v35 c0_i32_14
  v36

def k0_cond9 (i : grid0.Coords) : BitVec 1 :=
  let arg2 : BitVec 32 := BitVec.ofNat 32 (i 2).val
  let c6_i32_15 : BitVec 32 := 6#32
  let v37 : BitVec 1 := Scalar.cmpi .eq arg2 c6_i32_15
  let v38 : BitVec 32 := Scalar.extui v37
  let c0_i32_16 : BitVec 32 := 0#32
  let v39 : BitVec 1 := Scalar.cmpi .ne v38 c0_i32_16
  v39

def k0_cond10 (i : grid0.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | "qscale" => some (((Real.sqrt 192)⁻¹ * (Real.log 2)⁻¹ : ℝ) : EReal)
  | _ => none
-- ==== ReferenceIdeal.lean ====
abbrev S4x2048x6144 : Shape := ⟨3, ![4, 2048, 6144]⟩
abbrev S4x2048x8192 : Shape := ⟨3, ![4, 2048, 8192]⟩
abbrev S4x2048x1600 : Shape := ⟨3, ![4, 2048, 1600]⟩
abbrev S4x2048 : Shape := ⟨2, ![4, 2048]⟩
abbrev S4x2048x64 : Shape := ⟨3, ![4, 2048, 64]⟩
abbrev S4x2048x32x192 : Shape := ⟨4, ![4, 2048, 32, 192]⟩
abbrev S4x2048x32x128 : Shape := ⟨4, ![4, 2048, 32, 128]⟩
abbrev S4x2048x32x64 : Shape := ⟨4, ![4, 2048, 32, 64]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x1x32 : Shape := ⟨4, ![4, 2048, 1, 32]⟩
abbrev S4x2048x32x32 : Shape := ⟨4, ![4, 2048, 32, 32]⟩
abbrev S4x2048x32x256 : Shape := ⟨4, ![4, 2048, 32, 256]⟩
abbrev S4x32x2048x2048 : Shape := ⟨4, ![4, 32, 2048, 2048]⟩
abbrev S4x2048x2048x32 : Shape := ⟨4, ![4, 2048, 2048, 32]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩
abbrev S8192x4096 : Shape := ⟨2, ![8192, 4096]⟩

abbrev nBuf : Space → Nat
  | .hbm => 137
  | .vmem => 0
  | .smem => 0
  | _ => 0

abbrev hbmTy0_0 (i : Nat) : BufTy := match i % 128 with
  | 0 => ⟨S4x2048x6144, .f32⟩
  | 1 => ⟨S4x2048x8192, .f32⟩
  | 2 => ⟨S4x2048x1600, .f32⟩
  | 3 => ⟨S4x2048, .i32⟩
  | 4 => ⟨S4x2048x64, .f32⟩
  | 5 => ⟨S4x2048x32x192, .f32⟩
  | 6 => ⟨S4x2048x32x128, .f32⟩
  | 7 => ⟨S4x2048x32x64, .f32⟩
  | 8 => ⟨S32, .i32⟩
  | 9 => ⟨S_, .i32⟩
  | 10 => ⟨S32, .i32⟩
  | 11 => ⟨S32, .i32⟩
  | 12 => ⟨S_, .i32⟩
  | 13 => ⟨S32, .i32⟩
  | 14 => ⟨S32, .i32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4x2048, .f32⟩
  | 24 => ⟨S4x2048x1, .f32⟩
  | 25 => ⟨S1x1x32, .f32⟩
  | 26 => ⟨S4x2048x32, .f32⟩
  | 27 => ⟨S4x2048x32, .f32⟩
  | 28 => ⟨S4x2048x32, .f32⟩
  | 29 => ⟨S4x2048x1x32, .f32⟩
  | 30 => ⟨S4x2048x1x32, .f32⟩
  | 31 => ⟨S4x2048x1x32, .f32⟩
  | 32 => ⟨S4x2048x32x32, .f32⟩
  | 33 => ⟨S4x2048x32x32, .f32⟩
  | 34 => ⟨S4x2048x32x32, .f32⟩
  | 35 => ⟨S4x2048x32x32, .f32⟩
  | 36 => ⟨S4x2048x32x32, .f32⟩
  | 37 => ⟨S4x2048x32x32, .f32⟩
  | 38 => ⟨S4x2048x32x32, .f32⟩
  | 39 => ⟨S4x2048x32x32, .f32⟩
  | 40 => ⟨S4x2048x32x32, .f32⟩
  | 41 => ⟨S4x2048x32x32, .f32⟩
  | 42 => ⟨S4x2048x32x32, .f32⟩
  | 43 => ⟨S4x2048x32x32, .f32⟩
  | 44 => ⟨S4x2048x32x64, .f32⟩
  | 45 => ⟨S32, .i32⟩
  | 46 => ⟨S_, .i32⟩
  | 47 => ⟨S32, .i32⟩
  | 48 => ⟨S32, .i32⟩
  | 49 => ⟨S_, .i32⟩
  | 50 => ⟨S32, .i32⟩
  | 51 => ⟨S32, .i32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S4x2048, .f32⟩
  | 61 => ⟨S4x2048x1, .f32⟩
  | 62 => ⟨S1x1x32, .f32⟩
  | 63 => ⟨S4x2048x32, .f32⟩
  | 64 => ⟨S4x2048x32, .f32⟩
  | 65 => ⟨S4x2048x32, .f32⟩
  | 66 => ⟨S4x2048x32, .f32⟩
  | 67 => ⟨S4x2048x32, .f32⟩
  | 68 => ⟨S4x2048x32, .f32⟩
  | 69 => ⟨S4x2048x32, .f32⟩
  | 70 => ⟨S4x2048x32, .f32⟩
  | 71 => ⟨S4x2048x32, .f32⟩
  | 72 => ⟨S4x2048x32, .f32⟩
  | 73 => ⟨S4x2048x32, .f32⟩
  | 74 => ⟨S4x2048x32, .f32⟩
  | 75 => ⟨S4x2048x32, .f32⟩
  | 76 => ⟨S4x2048x64, .f32⟩
  | 77 => ⟨S4x2048x32x256, .f32⟩
  | 78 => ⟨S4x2048x32x128, .f32⟩
  | 79 => ⟨S4x2048x32x128, .f32⟩
  | 80 => ⟨S_, .f32⟩
  | 81 => ⟨S_, .f32⟩
  | 82 => ⟨S_, .f32⟩
  | 83 => ⟨S_, .f32⟩
  | 84 => ⟨S4x32x2048x2048, .f32⟩
  | 85 => ⟨S4x2048x2048x32, .f32⟩
  | 86 => ⟨S4x32x2048x2048, .f32⟩
  | 87 => ⟨S4x32x2048x2048, .f32⟩
  | 88 => ⟨S4x32x2048x2048, .f32⟩
  | 89 => ⟨S4x32x2048x2048, .f32⟩
  | 90 => ⟨S2048, .i32⟩
  | 91 => ⟨S_, .i32⟩
  | 92 => ⟨S_, .i32⟩
  | 93 => ⟨S2048, .i32⟩
  | 94 => ⟨S2048, .i32⟩
  | 95 => ⟨S2048, .i32⟩
  | 96 => ⟨S_, .i32⟩
  | 97 => ⟨S2048, .i32⟩
  | 98 => ⟨S2048, .i1⟩
  | 99 => ⟨S2048, .i32⟩
  | 100 => ⟨S2048, .i32⟩
  | 101 => ⟨S_, .i32⟩
  | 102 => ⟨S2048, .i32⟩
  | 103 => ⟨S2048, .i1⟩
  | 104 => ⟨S2048, .i1⟩
  | 105 => ⟨S_, .i32⟩
  | 106 => ⟨S2048, .i32⟩
  | 107 => ⟨S2048, .i32⟩
  | 108 => ⟨S2048, .i32⟩
  | 109 => ⟨S1x2048, .i32⟩
  | 110 => ⟨S2048x1, .i32⟩
  | 111 => ⟨S2048x2048, .i32⟩
  | 112 => ⟨S2048x2048, .i32⟩
  | 113 => ⟨S2048x2048, .i1⟩
  | 114 => ⟨S_, .f32⟩
  | 115 => ⟨S_, .f32⟩
  | 116 => ⟨S4x32x2048x2048, .i1⟩
  | 117 => ⟨S4x32x2048x2048, .f32⟩
  | 118 => ⟨S4x32x2048x2048, .f32⟩
  | 119 => ⟨S_, .f32⟩
  | 120 => ⟨S4x32x2048, .f32⟩
  | 121 => ⟨S_, .f32⟩
  | 122 => ⟨S4x32x2048, .f32⟩
  | 123 => ⟨S4x32x2048, .f32⟩
  | 124 => ⟨S4x32x2048x1, .f32⟩
  | 125 => ⟨S4x32x2048x2048, .f32⟩
  | 126 => ⟨S4x32x2048x2048, .f32⟩
  | 127 => ⟨S4x32x2048x2048, .f32⟩
  | _ => ⟨S4x2048x6144, .f32⟩

abbrev hbmTy0_1 (i : Nat) : BufTy := match i % 128 with
  | 0 => ⟨S_, .f32⟩
  | 1 => ⟨S4x32x2048, .f32⟩
  | 2 => ⟨S4x32x2048x1, .f32⟩
  | 3 => ⟨S4x32x2048x2048, .f32⟩
  | 4 => ⟨S4x32x2048x2048, .f32⟩
  | 5 => ⟨S4x32x128x2048, .f32⟩
  | 6 => ⟨S4x2048x32x128, .f32⟩
  | 7 => ⟨S8192x4096, .f32⟩
  | 8 => ⟨S8192x4096, .bf16⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_2 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_c_8 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_c : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_c_0 : Ref sig .tc := ⟨.hbm, 105, rfl⟩
abbrev main_call0_v12 : Ref sig .tc := ⟨.hbm, 106, rfl⟩
abbrev main_call0_v13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_9 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v83 : Ref sig .tc := ⟨.hbm, 118, rfl⟩
abbrev main_cst_10 : Ref sig .tc := ⟨.hbm, 119, rfl⟩
abbrev main_v84 : Ref sig .tc := ⟨.hbm, 120, rfl⟩
abbrev main_cst_11 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_12 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== Kernel2.lean ====
abbrev S4x2048x4096 : Shape := ⟨3, ![4, 2048, 4096]⟩
abbrev S2x4096 : Shape := ⟨2, ![2, 4096]⟩
abbrev S2x4096x12288 : Shape := ⟨3, ![2, 4096, 12288]⟩
abbrev S8192x4096 : Shape := ⟨2, ![8192, 4096]⟩
abbrev S1x4096 : Shape := ⟨2, ![1, 4096]⟩
abbrev S4096 : Shape := ⟨1, ![4096]⟩
abbrev S8192x128 : Shape := ⟨2, ![8192, 128]⟩
abbrev S8192x6144 : Shape := ⟨2, ![8192, 6144]⟩
abbrev S2048x4096 : Shape := ⟨2, ![2048, 4096]⟩
abbrev S2048x128 : Shape := ⟨2, ![2048, 128]⟩
abbrev S1x4096x256 : Shape := ⟨3, ![1, 4096, 256]⟩
abbrev S2048x256 : Shape := ⟨2, ![2048, 256]⟩
abbrev S2048 : Shape := ⟨1, ![2048]⟩
abbrev S2048x1 : Shape := ⟨2, ![2048, 1]⟩
abbrev S4096x256 : Shape := ⟨2, ![4096, 256]⟩

abbrev nBuf : Space → Nat
  | .hbm => 75
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x12288, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x6144, .bf16⟩
  | .local _ .vmem, ⟨0, _⟩ => ⟨S2048x4096, .bf16⟩
  | .local _ .vmem, ⟨1, _⟩ => ⟨S2048x128, .f32⟩
  | .local _ .vmem, ⟨2, _⟩ => ⟨S2048x128, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S2048x256, .bf16⟩
  | .local _ .vmem, ⟨8, _⟩ => ⟨S2048x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x2048x4096 : Shape := ⟨3, ![4, 2048, 4096]⟩
abbrev S2x4096 : Shape := ⟨2, ![2, 4096]⟩
abbrev S2x4096x12288 : Shape := ⟨3, ![2, 4096, 12288]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x4096x12288 : Shape := ⟨3, ![1, 4096, 12288]⟩
abbrev S4096x12288 : Shape := ⟨2, ![4096, 12288]⟩
abbrev S4x2048x12288 : Shape := ⟨3, ![4, 2048, 12288]⟩
abbrev S4x2048x6144 : Shape := ⟨3, ![4, 2048, 6144]⟩
abbrev S8192x6144 : Shape := ⟨2, ![8192, 6144]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x12288, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S1x4096x12288, .f32⟩
  | .hbm, ⟨22, _⟩ => ⟨S4096x12288, .f32⟩
  | .hbm, ⟨23, _⟩ => ⟨S4x2048x12288, .f32⟩
  | .hbm, ⟨24, _⟩ => ⟨S4x2048x6144, .f32⟩
  | .hbm, ⟨25, _⟩ => ⟨S4x2048x6144, .f32⟩
  | .hbm, ⟨26, _⟩ => ⟨S4x2048x6144, .f32⟩
  | .hbm, ⟨27, _⟩ => ⟨S4x2048x6144, .f32⟩
  | .hbm, ⟨28, _⟩ => ⟨S_, .f32⟩
  | .hbm, ⟨29, _⟩ => ⟨S4x2048x6144, .f32⟩
  | .hbm, ⟨30, _⟩ => ⟨S4x2048x6144, .f32⟩
  | .hbm, ⟨31, _⟩ => ⟨S_, .f32⟩
  | .hbm, ⟨32, _⟩ => ⟨S4x2048x6144, .f32⟩
  | .hbm, ⟨33, _⟩ => ⟨S4x2048x6144, .f32⟩
  | .hbm, ⟨34, _⟩ => ⟨S4x2048x6144, .f32⟩
  | .hbm, ⟨35, _⟩ => ⟨S4x2048x6144, .f32⟩
  | .hbm, ⟨36, _⟩ => ⟨S8192x6144, .f32⟩
  | .hbm, ⟨37, _⟩ => ⟨S8192x6144, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel3.lean ====
abbrev S4x2048x4096 : Shape := ⟨3, ![4, 2048, 4096]⟩
abbrev S4x2048x6144 : Shape := ⟨3, ![4, 2048, 6144]⟩
abbrev S2x6144x4096 : Shape := ⟨3, ![2, 6144, 4096]⟩
abbrev S4096 : Shape := ⟨1, ![4096]⟩
abbrev S8192x4096 : Shape := ⟨2, ![8192, 4096]⟩
abbrev S8192x6144 : Shape := ⟨2, ![8192, 6144]⟩
abbrev S1x4096 : Shape := ⟨2, ![1, 4096]⟩
abbrev S8192x128 : Shape := ⟨2, ![8192, 128]⟩
abbrev S1024x6144 : Shape := ⟨2, ![1024, 6144]⟩
abbrev S1x6144x256 : Shape := ⟨3, ![1, 6144, 256]⟩
abbrev S1024x256 : Shape := ⟨2, ![1024, 256]⟩
abbrev S1x256 : Shape := ⟨2, ![1, 256]⟩
abbrev S1024x128 : Shape := ⟨2, ![1024, 128]⟩
abbrev S6144x256 : Shape := ⟨2, ![6144, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4x2048x6144, .f32⟩
  | .hbm, ⟨2, _⟩ => ⟨S2x6144x4096, .f32⟩
  | .hbm, ⟨3, _⟩ => ⟨S4096, .f32⟩
  | .hbm, ⟨4, _⟩ => ⟨S8192x4096, .f32⟩
  | .hbm, ⟨5, _⟩ => ⟨S8192x6144, .f32⟩
  | .hbm, ⟨6, _⟩ => ⟨S8192x6144, .bf16⟩
  | .hbm, ⟨7, _⟩ => ⟨S1x4096, .f32⟩
  | .hbm, ⟨8, _⟩ => ⟨S8192x4096, .f32⟩
  | .hbm, ⟨9, _⟩ => ⟨S8192x4096, .bf16⟩
  | .hbm, ⟨10, _⟩ => ⟨S8192x128, .f32⟩
  | .local _ .vmem, ⟨0, _⟩ => ⟨S1024x6144, .bf16⟩
  | .local _ .vmem, ⟨1, _⟩ => ⟨S1024x6144, .bf16⟩
  | .local _ .vmem, ⟨2, _⟩ => ⟨S1x6144x256, .f32⟩
  | .local _ .vmem, ⟨3, _⟩ => ⟨S1x6144x256, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x128, .f32⟩
  | .local _ .vmem, ⟨13, _⟩ => ⟨S1024x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg1 : BitVec 32 := BitVec.ofNat 32 (i 1).val
  let c0_i32_14 : BitVec 32 := 0#32
  let v25 : BitVec 1 := Scalar.cmpi .ne arg1 c0_i32_14
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6144x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x2048x4096 : Shape := ⟨3, ![4, 2048, 4096]⟩
abbrev S4x2048x6144 : Shape := ⟨3, ![4, 2048, 6144]⟩
abbrev S2x6144x4096 : Shape := ⟨3, ![2, 6144, 4096]⟩
abbrev S4096 : Shape := ⟨1, ![4096]⟩
abbrev S1x6144x4096 : Shape := ⟨3, ![1, 6144, 4096]⟩
abbrev S6144x4096 : Shape := ⟨2, ![6144, 4096]⟩
abbrev S_ : Shape := ⟨0, ![]⟩
abbrev S8192x32x128 : Shape := ⟨3, ![8192, 32, 128]⟩
abbrev S8192x128 : Shape := ⟨2, ![8192, 128]⟩
abbrev S8192x4096 : Shape := ⟨2, ![8192, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x6144, .f32⟩
  | .hbm, ⟨2, _⟩ => ⟨S2x6144x4096, .f32⟩
  | .hbm, ⟨3, _⟩ => ⟨S4096, .f32⟩
  | .hbm, ⟨4, _⟩ => ⟨S1x6144x4096, .f32⟩
  | .hbm, ⟨5, _⟩ => ⟨S6144x4096, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S8192x32x128, .f32⟩
  | .hbm, ⟨13, _⟩ => ⟨S_, .f32⟩
  | .hbm, ⟨14, _⟩ => ⟨S8192x128, .f32⟩
  | .hbm, ⟨15, _⟩ => ⟨S8192x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | .hbm, ⟨20, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S8192x128 : Shape := ⟨2, ![8192, 128]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S1x4096, .f32⟩
  | .hbm, ⟨9, _⟩ => ⟨S8192x4096, .f32⟩
  | .hbm, ⟨10, _⟩ => ⟨S8192x4096, .bf16⟩
  | .hbm, ⟨11, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_12 : BitVec 32 := 0#32
  let v27 : BitVec 1 := Scalar.cmpi .ne v26 c0_i32_12
  v27

def k0_cond2 (i : grid0.Coords) : BitVec 1 :=
  let arg1 : BitVec 32 := BitVec.ofNat 32 (i 1).val
  let c0_i32_13 : BitVec 32 := 0#32
  let v28 : BitVec 1 := Scalar.cmpi .ne arg1 c0_i32_13
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S4x2048x4096 : Shape := ⟨3, ![4, 2048, 4096]⟩
abbrev S4096x4096 : Shape := ⟨2, ![4096, 4096]⟩
abbrev S4096 : Shape := ⟨1, ![4096]⟩
abbrev S8192x32x128 : Shape := ⟨3, ![8192, 32, 128]⟩
abbrev S_ : Shape := ⟨0, ![]⟩
abbrev S8192x128 : Shape := ⟨2, ![8192, 128]⟩
abbrev S8192x4096 : Shape := ⟨2, ![8192, 4096]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S8192x32x128, .f32⟩
  | .hbm, ⟨8, _⟩ => ⟨S_, .f32⟩
  | .hbm, ⟨9, _⟩ => ⟨S8192x128, .f32⟩
  | .hbm, ⟨10, _⟩ => ⟨S8192x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | .hbm, ⟨15, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x2048x4096 : Shape := ⟨3, ![4, 2048, 4096]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2048x4096 : Shape := ⟨3, ![4, 2048, 4096]⟩
abbrev S4096x4096 : Shape := ⟨2, ![4096, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4x2048x4096 : Shape := ⟨3, ![4, 2048, 4096]⟩
abbrev S4096 : Shape := ⟨1, ![4096]⟩
abbrev S4096x1600 : Shape := ⟨2, ![4096, 1600]⟩
abbrev S128 : Shape := ⟨1, ![128]⟩
abbrev S8192x4096 : Shape := ⟨2, ![8192, 4096]⟩
abbrev S1x4096 : Shape := ⟨2, ![1, 4096]⟩
abbrev S8192x128 : Shape := ⟨2, ![8192, 128]⟩
abbrev S_ : Shape := ⟨0, ![]⟩
abbrev S128x1 : Shape := ⟨2, ![128, 1]⟩
abbrev S4096x128 : Shape := ⟨2, ![4096, 128]⟩
abbrev S1x128 : Shape := ⟨2, ![1, 128]⟩
abbrev S4096x1536 : Shape := ⟨2, ![4096, 1536]⟩
abbrev S4096x1664 : Shape := ⟨2, ![4096, 1664]⟩
abbrev S8192x1664 : Shape := ⟨2, ![8192, 1664]⟩
abbrev S512x4096 : Shape := ⟨2, ![512, 4096]⟩
abbrev S512x128 : Shape := ⟨2, ![512, 128]⟩
abbrev S512x1664 : Shape := ⟨2, ![512, 1664]⟩
abbrev S512 : Shape := ⟨1, ![512]⟩
abbrev S512x1 : Shape := ⟨2, ![512, 1]⟩

abbrev nBuf : Space → Nat
  | .hbm => 88
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x1600, .f32⟩
  | .hbm, ⟨3, _⟩ => ⟨S128, .i32⟩
  | .hbm, ⟨4, _⟩ => ⟨S128, .i1⟩
  | .hbm, ⟨5, _⟩ => ⟨S128, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x4096, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S128x1, .i32⟩
  | .hbm, ⟨80, _⟩ => ⟨S4096x128, .f32⟩
  | .hbm, ⟨81, _⟩ => ⟨S1x128, .f32⟩
  | .hbm, ⟨82, _⟩ => ⟨S4096x128, .f32⟩
  | .hbm, ⟨83, _⟩ => ⟨S4096x128, .f32⟩
  | .hbm, ⟨84, _⟩ => ⟨S4096x1536, .f32⟩
  | .hbm, ⟨85, _⟩ => ⟨S4096x1664, .f32⟩
  | .hbm, ⟨86, _⟩ => ⟨S4096x1664, .bf16⟩
  | .hbm, ⟨87, _⟩ => ⟨S8192x1664, .f32⟩
  | .local _ .vmem, ⟨0, _⟩ => ⟨S512x4096, .bf16⟩
  | .local _ .vmem, ⟨1, _⟩ => ⟨S512x4096, .bf16⟩
  | .local _ .vmem, ⟨2, _⟩ => ⟨S4096x1664, .bf16⟩
  | .local _ .vmem, ⟨3, _⟩ => ⟨S512x128, .f32⟩
  | .local _ .vmem, ⟨4, _⟩ => ⟨S512x128, .f32⟩
  | .local _ .vmem, ⟨5, _⟩ => ⟨S512x1664, .f32⟩
  | .local _ .vmem, ⟨6, _⟩ => ⟨S512x1664, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_c_1 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2048x4096 : Shape := ⟨3, ![4, 2048, 4096]⟩
abbrev S4096 : Shape := ⟨1, ![4096]⟩
abbrev S4096x1600 : Shape := ⟨2, ![4096, 1600]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x1600 : Shape := ⟨3, ![4, 2048, 1600]⟩
abbrev S8192x1600 : Shape := ⟨2, ![8192, 1600]⟩
abbrev S8192x1536 : Shape := ⟨2, ![8192, 1536]⟩
abbrev S8192x64 : Shape := ⟨2, ![8192, 64]⟩
abbrev S8192x32 : Shape := ⟨2, ![8192, 32]⟩
abbrev S8192x1664 : Shape := ⟨2, ![8192, 1664]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x1600, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x1600, .f32⟩
  | .hbm, ⟨20, _⟩ => ⟨S8192x1600, .f32⟩
  | .hbm, ⟨21, _⟩ => ⟨S8192x1536, .f32⟩
  | .hbm, ⟨22, _⟩ => ⟨S8192x64, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x1664, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S4x2048x1600 : Shape := ⟨3, ![4, 2048, 1600]⟩
abbrev S1024 : Shape := ⟨1, ![1024]⟩
abbrev S1024x6144 : Shape := ⟨2, ![1024, 6144]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S1x8192 : Shape := ⟨2, ![1, 8192]⟩
abbrev S8192x1600 : Shape := ⟨2, ![8192, 1600]⟩
abbrev S8192x1024 : Shape := ⟨2, ![8192, 1024]⟩
abbrev S1x1024 : Shape := ⟨2, ![1, 1024]⟩
abbrev S8192x8192 : Shape := ⟨2, ![8192, 8192]⟩
abbrev S1024x1024 : Shape := ⟨2, ![1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S4x2048x1600, .f32⟩
  | .hbm, ⟨1, _⟩ => ⟨S1024, .f32⟩
  | .hbm, ⟨2, _⟩ => ⟨S1024x6144, .f32⟩
  | .hbm, ⟨3, _⟩ => ⟨S8192, .i32⟩
  | .hbm, ⟨4, _⟩ => ⟨S8192, .i1⟩
  | .hbm, ⟨5, _⟩ => ⟨S8192, .f32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1024x8192, .f32⟩
  | .hbm, ⟨12, _⟩ => ⟨S1x8192, .f32⟩
  | .hbm, ⟨13, _⟩ => ⟨S1024x8192, .f32⟩
  | .hbm, ⟨14, _⟩ => ⟨S1024x8192, .f32⟩
  | .hbm, ⟨15, _⟩ => ⟨S1024x8192, .bf16⟩
  | .hbm, ⟨16, _⟩ => ⟨S8192x1600, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x2048x1600 : Shape := ⟨3, ![4, 2048, 1600]⟩
abbrev S1024 : Shape := ⟨1, ![1024]⟩
abbrev S1024x6144 : Shape := ⟨2, ![1024, 6144]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x6144 : Shape := ⟨3, ![4, 2048, 6144]⟩
abbrev S8192x32x192 : Shape := ⟨3, ![8192, 32, 192]⟩
abbrev S8192x32x128 : Shape := ⟨3, ![8192, 32, 128]⟩
abbrev S8192x32x64 : Shape := ⟨3, ![8192, 32, 64]⟩
abbrev S8192x32x32 : Shape := ⟨3, ![8192, 32, 32]⟩
abbrev S8192x32x256 : Shape := ⟨3, ![8192, 32, 256]⟩
abbrev S8192x8192 : Shape := ⟨2, ![8192, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S1024, .f32⟩
  | .hbm, ⟨2, _⟩ => ⟨S1024x6144, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x6144, .f32⟩
  | .hbm, ⟨21, _⟩ => ⟨S8192x32x192, .f32⟩
  | .hbm, ⟨22, _⟩ => ⟨S8192x32x128, .f32⟩
  | .hbm, ⟨23, _⟩ => ⟨S8192x32x64, .f32⟩
  | .hbm, ⟨24, _⟩ => ⟨S_, .f32⟩
  | .hbm, ⟨25, _⟩ => ⟨S8192x32x32, .f32⟩
  | .hbm, ⟨26, _⟩ => ⟨S8192x32x32, .f32⟩
  | .hbm, ⟨27, _⟩ => ⟨S8192x32x32, .f32⟩
  | .hbm, ⟨28, _⟩ => ⟨S8192x32x256, .f32⟩
  | .hbm, ⟨29, _⟩ => ⟨S8192x8192, .f32⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel9.lean ====
abbrev S4x2048x1600 : Shape := ⟨3, ![4, 2048, 1600]⟩
abbrev S512 : Shape := ⟨1, ![512]⟩
abbrev S512x8192 : Shape := ⟨2, ![512, 8192]⟩
abbrev S512x32x2x128 : Shape := ⟨4, ![512, 32, 2, 128]⟩
abbrev S512x2x32x128 : Shape := ⟨4, ![512, 2, 32, 128]⟩
abbrev S8192x1600 : Shape := ⟨2, ![8192, 1600]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x8192 : Shape := ⟨2, ![8192, 8192]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S4x2048x1600, .f32⟩
  | .hbm, ⟨1, _⟩ => ⟨S512, .f32⟩
  | .hbm, ⟨2, _⟩ => ⟨S512x8192, .f32⟩
  | .hbm, ⟨3, _⟩ => ⟨S512x32x2x128, .f32⟩
  | .hbm, ⟨4, _⟩ => ⟨S512x2x32x128, .f32⟩
  | .hbm, ⟨5, _⟩ => ⟨S512x8192, .f32⟩
  | .hbm, ⟨6, _⟩ => ⟨S512x8192, .bf16⟩
  | .hbm, ⟨7, _⟩ => ⟨S8192x1600, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .bf16⟩
  | .hbm, ⟨26, _⟩ => ⟨S8192x8192, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x2048x1600 : Shape := ⟨3, ![4, 2048, 1600]⟩
abbrev S512 : Shape := ⟨1, ![512]⟩
abbrev S512x8192 : Shape := ⟨2, ![512, 8192]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x8192 : Shape := ⟨3, ![4, 2048, 8192]⟩
abbrev S8192x32x256 : Shape := ⟨3, ![8192, 32, 256]⟩
abbrev S8192x32x128 : Shape := ⟨3, ![8192, 32, 128]⟩
abbrev S8192x4096 : Shape := ⟨2, ![8192, 4096]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S512, .f32⟩
  | .hbm, ⟨2, _⟩ => ⟨S512x8192, .f32⟩
  | .hbm, ⟨3, _⟩ => ⟨S4x2048x512, .f32⟩
  | .hbm, ⟨4, _⟩ => ⟨S4x2048x512, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x512, .f32⟩
  | .hbm, ⟨16, _⟩ => ⟨S4x2048x512, .f32⟩
  | .hbm, ⟨17, _⟩ => ⟨S1x1x512, .f32⟩
  | .hbm, ⟨18, _⟩ => ⟨S4x2048x512, .f32⟩
  | .hbm, ⟨19, _⟩ => ⟨S4x2048x512, .f32⟩
  | .hbm, ⟨20, _⟩ => ⟨S4x2048x8192, .f32⟩
  | .hbm, ⟨21, _⟩ => ⟨S8192x32x256, .f32⟩
  | .hbm, ⟨22, _⟩ => ⟨S8192x32x128, .f32⟩
  | .hbm, ⟨23, _⟩ => ⟨S8192x32x128, .f32⟩
  | .hbm, ⟨24, _⟩ => ⟨S8192x4096, .f32⟩
  | .hbm, ⟨25, _⟩ => ⟨S8192x4096, .f32⟩
  | .hbm, ⟨26, _⟩ => ⟨S8192x8192, .f32⟩
  | .hbm, ⟨27, _⟩ => ⟨S8192x8192, .bf16⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel10.lean ====
abbrev S4x2048x4096 : Shape := ⟨3, ![4, 2048, 4096]⟩
abbrev S4096 : Shape := ⟨1, ![4096]⟩
abbrev S4096x10400 : Shape := ⟨2, ![4096, 10400]⟩
abbrev S4x2048 : Shape := ⟨2, ![4, 2048]⟩
abbrev S128 : Shape := ⟨1, ![128]⟩
abbrev S8192x4096 : Shape := ⟨2, ![8192, 4096]⟩
abbrev S1x4096 : Shape := ⟨2, ![1, 4096]⟩
abbrev S8192x128 : Shape := ⟨2, ![8192, 128]⟩
abbrev S10400x4096 : Shape := ⟨2, ![10400, 4096]⟩
abbrev S_ : Shape := ⟨0, ![]⟩
abbrev S8192x1 : Shape := ⟨2, ![8192, 1]⟩
abbrev S1x128 : Shape := ⟨2, ![1, 128]⟩
abbrev S4x32x2048x128 : Shape := ⟨4, ![4, 32, 2048, 128]⟩
abbrev S1024x4096 : Shape := ⟨2, ![1024, 4096]⟩
abbrev S512x4096 : Shape := ⟨2, ![512, 4096]⟩
abbrev S1024x128 : Shape := ⟨2, ![1024, 128]⟩
abbrev S1x4x1024x128 : Shape := ⟨4, ![1, 4, 1024, 128]⟩
abbrev S1024x512 : Shape := ⟨2, ![1024, 512]⟩
abbrev S1024 : Shape := ⟨1, ![1024]⟩
abbrev S1024x1 : Shape := ⟨2, ![1024, 1]⟩
abbrev S1x1x1024x128 : Shape := ⟨4, ![1, 1, 1024, 128]⟩

abbrev nBuf : Space → Nat
  | .hbm => 91
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S4x2048, .i32⟩
  | .hbm, ⟨4, _⟩ => ⟨S128, .f32⟩
  | .hbm, ⟨5, _⟩ => ⟨S128, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x4096, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S10400x4096, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S8192x1, .i32⟩
  | .hbm, ⟨80, _⟩ => ⟨S8192x1, .f32⟩
  | .hbm, ⟨81, _⟩ => ⟨S1x128, .f32⟩
  | .hbm, ⟨82, _⟩ => ⟨S8192x128, .f32⟩
  | .hbm, ⟨83, _⟩ => ⟨S8192x128, .f32⟩
  | .hbm, ⟨84, _⟩ => ⟨S8192x128, .f32⟩
  | .hbm, ⟨85, _⟩ => ⟨S8192x128, .f32⟩
  | .hbm, ⟨86, _⟩ => ⟨S8192x128, .f32⟩
  | .hbm, ⟨87, _⟩ => ⟨S1x128, .f32⟩
  | .hbm, ⟨88, _⟩ => ⟨S8192x128, .f32⟩
  | .hbm, ⟨89, _⟩ => ⟨S8192x128, .f32⟩
  | .hbm, ⟨90, _⟩ => ⟨S4x32x2048x128, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x4x1024x128, .bf16⟩
  | .local _ .vmem, ⟨11, _⟩ => ⟨S1x4x1024x128, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_1 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel10Ideal.lean ====
variable {F : FTy → Type} [FloatOps F] [Named F]
def κ : String → Option EReal := fun
  | "qscale" => some (((Real.sqrt 128)⁻¹ * (Real.log 2)⁻¹ : ℝ) : EReal)
  | _ => none
-- ==== Reference10Ideal.lean ====
abbrev S4x2048x4096 : Shape := ⟨3, ![4, 2048, 4096]⟩
abbrev S4096 : Shape := ⟨1, ![4096]⟩
abbrev S4096x10400 : Shape := ⟨2, ![4096, 10400]⟩
abbrev S4x2048 : Shape := ⟨2, ![4, 2048]⟩
abbrev S_ : Shape := ⟨0, ![]⟩
abbrev S4x2048x1 : Shape := ⟨3, ![4, 2048, 1]⟩
abbrev S1x1x4096 : Shape := ⟨3, ![1, 1, 4096]⟩
abbrev S4x2048x10400 : Shape := ⟨3, ![4, 2048, 10400]⟩
abbrev S4x2048x32x128 : Shape := ⟨4, ![4, 2048, 32, 128]⟩
abbrev S64 : Shape := ⟨1, ![64]⟩
abbrev S1x1x64 : Shape := ⟨3, ![1, 1, 64]⟩
abbrev S4x2048x64 : Shape := ⟨3, ![4, 2048, 64]⟩
abbrev S4x2048x1x64 : Shape := ⟨4, ![4, 2048, 1, 64]⟩
abbrev S4x2048x32x64 : Shape := ⟨4, ![4, 2048, 32, 64]⟩
abbrev S4x32x2048x128 : Shape := ⟨4, ![4, 32, 2048, 128]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S4x2048, .i32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x2048x10400, .f32⟩
  | .hbm, ⟨21, _⟩ => ⟨S4x2048x4096, .f32⟩
  | .hbm, ⟨22, _⟩ => ⟨S4x2048x32x128, .f32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S4x2048, .f32⟩
  | .hbm, ⟨39, _⟩ => ⟨S4x2048x1, .f32⟩
  | .hbm, ⟨40, _⟩ => ⟨S1x1x64, .f32⟩
  | .hbm, ⟨41, _⟩ => ⟨S4x2048x64, .f32⟩
  | .hbm, ⟨42, _⟩ => ⟨S4x2048x64, .f32⟩
  | .hbm, ⟨43, _⟩ => ⟨S4x2048x64, .f32⟩
  | .hbm, ⟨44, _⟩ => ⟨S4x2048x1x64, .f32⟩
  | .hbm, ⟨45, _⟩ => ⟨S4x2048x1x64, .f32⟩
  | .hbm, ⟨46, _⟩ => ⟨S4x2048x1x64, .f32⟩
  | .hbm, ⟨47, _⟩ => ⟨S4x2048x32x64, .f32⟩
  | .hbm, ⟨48, _⟩ => ⟨S4x2048x32x64, .f32⟩
  | .hbm, ⟨49, _⟩ => ⟨S4x2048x32x64, .f32⟩
  | .hbm, ⟨50, _⟩ => ⟨S4x2048x32x64, .f32⟩
  | .hbm, ⟨51, _⟩ => ⟨S4x2048x32x64, .f32⟩
  | .hbm, ⟨52, _⟩ => ⟨S4x2048x32x64, .f32⟩
  | .hbm, ⟨53, _⟩ => ⟨S4x2048x32x64, .f32⟩
  | .hbm, ⟨54, _⟩ => ⟨S4x2048x32x64, .f32⟩
  | .hbm, ⟨55, _⟩ => ⟨S4x2048x32x64, .f32⟩
  | .hbm, ⟨56, _⟩ => ⟨S4x2048x32x64, .f32⟩
  | .hbm, ⟨57, _⟩ => ⟨S4x2048x32x64, .f32⟩
  | .hbm, ⟨58, _⟩ => ⟨S4x2048x32x64, .f32⟩
  | .hbm, ⟨59, _⟩ => ⟨S4x2048x32x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4x2048x32x128, .f32⟩
  | .hbm, ⟨68, _⟩ => ⟨S4x2048x32x128, .f32⟩
  | .hbm, ⟨69, _⟩ => ⟨S4x32x2048x128, .f32⟩
  | .hbm, ⟨70, _⟩ => ⟨S4x32x2048x128, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel11.lean ====
abbrev S4x2048x4096 : Shape := ⟨3, ![4, 2048, 4096]⟩
abbrev S4096 : Shape := ⟨1, ![4096]⟩
abbrev S4096x10400 : Shape := ⟨2, ![4096, 10400]⟩
abbrev S8192x4096 : Shape := ⟨2, ![8192, 4096]⟩
abbrev S1x4096 : Shape := ⟨2, ![1, 4096]⟩
abbrev S8192x128 : Shape := ⟨2, ![8192, 128]⟩
abbrev S10400x4096 : Shape := ⟨2, ![10400, 4096]⟩
abbrev S4x8x144x2048 : Shape := ⟨4, ![4, 8, 144, 2048]⟩
abbrev S1024x4096 : Shape := ⟨2, ![1024, 4096]⟩
abbrev S512x4096 : Shape := ⟨2, ![512, 4096]⟩
abbrev S1024x128 : Shape := ⟨2, ![1024, 128]⟩
abbrev S1x4x144x1024 : Shape := ⟨4, ![1, 4, 144, 1024]⟩
abbrev S1024x512 : Shape := ⟨2, ![1024, 512]⟩
abbrev S1024 : Shape := ⟨1, ![1024]⟩
abbrev S1024x1 : Shape := ⟨2, ![1024, 1]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 74
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S10400x4096, .f32⟩
  | .hbm, ⟨73, _⟩ => ⟨S4x8x144x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x128, .f32⟩
  | .local _ .vmem, ⟨5, _⟩ => ⟨S1024x128, .f32⟩
  | .local _ .vmem, ⟨6, _⟩ => ⟨S1x4x144x1024, .bf16⟩
  | .local _ .vmem, ⟨7, _⟩ => ⟨S1x4x144x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x144x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4x2048x4096 : Shape := ⟨3, ![4, 2048, 4096]⟩
abbrev S4096 : Shape := ⟨1, ![4096]⟩
abbrev S4096x10400 : Shape := ⟨2, ![4096, 10400]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x10400 : Shape := ⟨3, ![4, 2048, 10400]⟩
abbrev S4x2048x1024 : Shape := ⟨3, ![4, 2048, 1024]⟩
abbrev S4x2048x8x128 : Shape := ⟨4, ![4, 2048, 8, 128]⟩
abbrev S4x8x128x2048 : Shape := ⟨4, ![4, 8, 128, 2048]⟩
abbrev S4x8x16x2048 : Shape := ⟨4, ![4, 8, 16, 2048]⟩
abbrev S4x8x144x2048 : Shape := ⟨4, ![4, 8, 144, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x10400, .f32⟩
  | .hbm, ⟨20, _⟩ => ⟨S4x2048x1024, .f32⟩
  | .hbm, ⟨21, _⟩ => ⟨S4x2048x8x128, .f32⟩
  | .hbm, ⟨22, _⟩ => ⟨S4x8x128x2048, .f32⟩
  | .hbm, ⟨23, _⟩ => ⟨S_, .f32⟩
  | .hbm, ⟨24, _⟩ => ⟨S4x8x16x2048, .f32⟩
  | .hbm, ⟨25, _⟩ => ⟨S4x8x144x2048, .f32⟩
  | .hbm, ⟨26, _⟩ => ⟨S4x8x144x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel12.lean ====
abbrev S4x2048x4096 : Shape := ⟨3, ![4, 2048, 4096]⟩
abbrev S4096 : Shape := ⟨1, ![4096]⟩
abbrev S4096x10400 : Shape := ⟨2, ![4096, 10400]⟩
abbrev S4x2048 : Shape := ⟨2, ![4, 2048]⟩
abbrev S128 : Shape := ⟨1, ![128]⟩
abbrev S8192x4096 : Shape := ⟨2, ![8192, 4096]⟩
abbrev S1x4096 : Shape := ⟨2, ![1, 4096]⟩
abbrev S8192x128 : Shape := ⟨2, ![8192, 128]⟩
abbrev S10400x4096 : Shape := ⟨2, ![10400, 4096]⟩
abbrev S_ : Shape := ⟨0, ![]⟩
abbrev S8192x1 : Shape := ⟨2, ![8192, 1]⟩
abbrev S1x128 : Shape := ⟨2, ![1, 128]⟩
abbrev S4x32x2048x128 : Shape := ⟨4, ![4, 32, 2048, 128]⟩
abbrev S1024x4096 : Shape := ⟨2, ![1024, 4096]⟩
abbrev S512x4096 : Shape := ⟨2, ![512, 4096]⟩
abbrev S1024x128 : Shape := ⟨2, ![1024, 128]⟩
abbrev S1x4x1024x128 : Shape := ⟨4, ![1, 4, 1024, 128]⟩
abbrev S1024x512 : Shape := ⟨2, ![1024, 512]⟩
abbrev S1024 : Shape := ⟨1, ![1024]⟩
abbrev S1024x1 : Shape := ⟨2, ![1024, 1]⟩
abbrev S1x1x1024x128 : Shape := ⟨4, ![1, 1, 1024, 128]⟩

abbrev nBuf : Space → Nat
  | .hbm => 100
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S4x2048, .i32⟩
  | .hbm, ⟨4, _⟩ => ⟨S128, .f32⟩
  | .hbm, ⟨5, _⟩ => ⟨S128, .i1⟩
  | .hbm, ⟨6, _⟩ => ⟨S128, .f32⟩
  | .hbm, ⟨7, _⟩ => ⟨S128, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .bf16⟩
  | .hbm, ⟨13, _⟩ => ⟨S8192x4096, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S10400x4096, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S8192x1, .i32⟩
  | .hbm, ⟨86, _⟩ => ⟨S8192x1, .f32⟩
  | .hbm, ⟨87, _⟩ => ⟨S1x128, .f32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S1x128, .f32⟩
  | .hbm, ⟨94, _⟩ => ⟨S8192x128, .f32⟩
  | .hbm, ⟨95, _⟩ => ⟨S8192x128, .f32⟩
  | .hbm, ⟨96, _⟩ => ⟨S1x128, .f32⟩
  | .hbm, ⟨97, _⟩ => ⟨S8192x128, .f32⟩
  | .hbm, ⟨98, _⟩ => ⟨S8192x128, .f32⟩
  | .hbm, ⟨99, _⟩ => ⟨S4x32x2048x128, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x4x1024x128, .bf16⟩
  | .local _ .vmem, ⟨13, _⟩ => ⟨S1x4x1024x128, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_2 : Ref sig .tc := ⟨.hbm, 78, rfl⟩
abbrev main_v70 : Ref sig .tc := ⟨.hbm, 79, rfl⟩
abbrev main_v71 : Ref sig .tc := ⟨.hbm, 80, rfl⟩
abbrev main_cst_3 : Ref sig .tc := ⟨.hbm, 81, rfl⟩
abbrev main_call0_v0 : Ref sig .tc := ⟨.hbm, 82, rfl⟩
abbrev main_call0_v1 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S4x2048x4096 : Shape := ⟨3, ![4, 2048, 4096]⟩
abbrev S4096 : Shape := ⟨1, ![4096]⟩
abbrev S4096x10400 : Shape := ⟨2, ![4096, 10400]⟩
abbrev S4x2048 : Shape := ⟨2, ![4, 2048]⟩
abbrev S_ : Shape := ⟨0, ![]⟩
abbrev S4x2048x1 : Shape := ⟨3, ![4, 2048, 1]⟩
abbrev S1x1x4096 : Shape := ⟨3, ![1, 1, 4096]⟩
abbrev S4x2048x10400 : Shape := ⟨3, ![4, 2048, 10400]⟩
abbrev S4x2048x32x128 : Shape := ⟨4, ![4, 2048, 32, 128]⟩
abbrev S4x2048x32x64 : Shape := ⟨4, ![4, 2048, 32, 64]⟩
abbrev S32 : Shape := ⟨1, ![32]⟩
abbrev S1x1x32 : Shape := ⟨3, ![1, 1, 32]⟩
abbrev S4x2048x32 : Shape := ⟨3, ![4, 2048, 32]⟩
abbrev S4x2048x1x32 : Shape := ⟨4, ![4, 2048, 1, 32]⟩
abbrev S4x2048x32x32 : Shape := ⟨4, ![4, 2048, 32, 32]⟩
abbrev S4x32x2048x128 : Shape := ⟨4, ![4, 32, 2048, 128]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x10400, .f32⟩
  | .hbm, ⟨3, _⟩ => ⟨S4x2048, .i32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x2048x10400, .f32⟩
  | .hbm, ⟨21, _⟩ => ⟨S4x2048x4096, .f32⟩
  | .hbm, ⟨22, _⟩ => ⟨S4x2048x32x128, .f32⟩
  | .hbm, ⟨23, _⟩ => ⟨S4x2048x32x64, .f32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4x2048, .f32⟩
  | .hbm, ⟨40, _⟩ => ⟨S4x2048x1, .f32⟩
  | .hbm, ⟨41, _⟩ => ⟨S1x1x32, .f32⟩
  | .hbm, ⟨42, _⟩ => ⟨S4x2048x32, .f32⟩
  | .hbm, ⟨43, _⟩ => ⟨S4x2048x32, .f32⟩
  | .hbm, ⟨44, _⟩ => ⟨S4x2048x32, .f32⟩
  | .hbm, ⟨45, _⟩ => ⟨S4x2048x1x32, .f32⟩
  | .hbm, ⟨46, _⟩ => ⟨S4x2048x1x32, .f32⟩
  | .hbm, ⟨47, _⟩ => ⟨S4x2048x1x32, .f32⟩
  | .hbm, ⟨48, _⟩ => ⟨S4x2048x32x32, .f32⟩
  | .hbm, ⟨49, _⟩ => ⟨S4x2048x32x32, .f32⟩
  | .hbm, ⟨50, _⟩ => ⟨S4x2048x32x32, .f32⟩
  | .hbm, ⟨51, _⟩ => ⟨S4x2048x32x32, .f32⟩
  | .hbm, ⟨52, _⟩ => ⟨S4x2048x32x32, .f32⟩
  | .hbm, ⟨53, _⟩ => ⟨S4x2048x32x32, .f32⟩
  | .hbm, ⟨54, _⟩ => ⟨S4x2048x32x32, .f32⟩
  | .hbm, ⟨55, _⟩ => ⟨S4x2048x32x32, .f32⟩
  | .hbm, ⟨56, _⟩ => ⟨S4x2048x32x32, .f32⟩
  | .hbm, ⟨57, _⟩ => ⟨S4x2048x32x32, .f32⟩
  | .hbm, ⟨58, _⟩ => ⟨S4x2048x32x32, .f32⟩
  | .hbm, ⟨59, _⟩ => ⟨S4x2048x32x32, .f32⟩
  | .hbm, ⟨60, _⟩ => ⟨S4x2048x32x64, .f32⟩
  | .hbm, ⟨61, _⟩ => ⟨S4x2048x32x64, .f32⟩
  | .hbm, ⟨62, _⟩ => ⟨S4x2048x32x128, .f32⟩
  | .hbm, ⟨63, _⟩ => ⟨S4x32x2048x128, .f32⟩
  | .hbm, ⟨64, _⟩ => ⟨S4x32x2048x128, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Scalars.lean ====
/- Facts about extended reals the calls' arithmetic needs: the constants they print, sums scaled by a factor that is a
   nonnegative real, and the root that a normalisation inverts. -/
module

public import Idealize.ShloMosaic.Lib.IdealHost
public import Idealize.ShloMosaic.Lib.Pipeline.ValueKit

@[expose] public section

noncomputable section

namespace Cert.Scalars

open Idealize.ShloMosaic

/-! ## Constants -/

theorem ofBits_4096 : Ideal.ofBits .f32 0x45800000#32 = ((4096 : ℝ) : EReal) := by
  simp [Ideal.ofBits, Ideal.ieee, -EReal.coe_mul]; norm_num

theorem ofBits_inv_4096 : Ideal.ofBits .f32 0x39800000#32 = ((1 / 4096 : ℝ) : EReal) := by
  simp [Ideal.ofBits, Ideal.ieee, -EReal.coe_mul]; norm_num

theorem ofBits_eps : ∃ r : ℝ, 0 < r ∧ Ideal.ofBits .f32 0x358637BD#32 = (r : EReal) := by
  refine ⟨_, ?_, by simp [Ideal.ofBits, Ideal.ieee, -EReal.coe_mul]; rfl⟩
  norm_num

/-! ## Sums scaled -/

/-- A factor that is a nonnegative real goes into a sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A square is not negative. -/
theorem mul_self_nonneg (x : EReal) : 0 ≤ x * x := by
  rcases le_total 0 x with h | h
  · exact mul_nonneg h h
  · simpa using mul_nonneg (EReal.neg_nonneg.mpr h) (EReal.neg_nonneg.mpr h)

/-- The inverse root of a positive extended real is a nonnegative real. -/
theorem rsqrt_of_pos {x : EReal} (hx : 0 < x) : ∃ r : ℝ, 0 ≤ r ∧ Ideal.rsqrt x = (r : EReal) := by
  induction x using EReal.rec with
  | bot => simp at hx
  | top => exact ⟨0, le_refl _, Ideal.rsqrt_top⟩
  | coe a =>
    have ha : 0 < a := by exact_mod_cast hx
    exact ⟨(Real.sqrt a)⁻¹, by positivity, by rw [Ideal.rsqrt_coe, if_neg (not_lt.mpr ha.le), if_neg ha.ne']⟩

/-! ## The 4096 entries of a row as 32 slices of 128 lanes -/

/-- Lane `l` of slice `s`. -/
def lane (s : Fin 32) (l : Fin 128) : Fin 4096 := ⟨s.val * 128 + l.val, by have := l.isLt; have := s.isLt; omega⟩

/-- Summing the slices lane by lane and then the lanes sums the row. -/
theorem sum_lanes (f : Fin 4096 → EReal) : ∑ l : Fin 128, ∑ s : Fin 32, f (lane s l) = ∑ k : Fin 4096, f k := by
  rw [Finset.sum_comm]
  exact Fin.sum_mul_add_fin 32 128 f

end Cert.Scalars

end
-- ==== Proof.Rows.lean ====
/- Rows of a batch of sequences: the layer's arrays [4, 2048, N] read by the number of the row among all 8192, as the
   calls take them once their two leading axes are joined. -/
module

public import Idealize.ShloMosaic.Lib.Pointwise
public import Idealize.ShloMosaic.Lib.Pipeline.Value

@[expose] public section

namespace Cert.Rows

open Idealize.ShloMosaic

/-- Entry `k` of row `r` of a batch of four sequences of 2048 rows. -/
def row {N : ℕ} {α : Type} (x : (⟨3, ![4, 2048, N]⟩ : Shape).Idx → α) (r : Fin 8192) (k : Fin N) : α :=
  x (ix3 ⟨r.val / 2048, by have := r.isLt; omega⟩ ⟨r.val % 2048, by omega⟩ k)

/-- Joining the two leading axes keeps every row. -/
theorem join_apply {N : ℕ} {α : Type} (x : (⟨3, ![4, 2048, N]⟩ : Shape).Idx → α)
    (h : (⟨3, ![4, 2048, N]⟩ : Shape).ShapeCasts ⟨2, ![8192, N]⟩) (i : (⟨2, ![8192, N]⟩ : Shape).Idx) :
    shapeCast ⟨2, ![8192, N]⟩ x h i = row x (i 0) (i 1) := by
  unfold row
  refine shapeCast_apply x h i _ ?_
  rw [Shape.rowMajor_val_three, Shape.rowMajor_val_two]
  show ((i 0).val / 2048 * 2048 + (i 0).val % 2048) * N + (i 1).val = (i 0).val * N + (i 1).val
  rw [Nat.div_add_mod']

end Cert.Rows
-- ==== Proof.Attention.Tables.lean ====
/- What the attention call's host lines leave in the arrays it reads, at an index. -/
module

public import Idealize.ShloMosaic.Lib.Pointwise
public import Idealize.ShloMosaic.Lib.Pipeline.ValueKit
public import Idealize.ShloMosaic.Lib.Claim
public import proofs.«01_k».proof.Proof.Gen.KernelIdeal.Value
public import proofs.«01_k».proof.Proof.Rows
public import proofs.«01_k».proof.Proof.Scalars

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Rows

/-- A selection of columns of a matrix by a list of column numbers. -/
abbrev colsDims (R C n : ℕ) (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- Entry `(r, l)` of the selection is entry `(r, k)` of the matrix, `k` the `l`-th number of the list. -/
theorem cols_apply {α : Type} {R C n : ℕ} (wf) (x : (⟨2, ![R, C]⟩ : Shape).Idx → α) (idx : IVec ⟨2, ![n, 1]⟩ 32)
    (r : Fin R) (l : Fin n) (k : Fin C) (hk : (idx (ix2 l (0 : Fin 1))).toInt.toNat = k.val) :
    Host.gather (colsDims R C n wf) x idx (ix2 r l) = x (ix2 r k) := by
  unfold Host.gather
  congr 1
  funext a
  refine Fin.ext ?_
  show (colsDims R C n wf).start (ix2 r l) idx a + (colsDims R C n wf).batchCoord (ix2 r l) a
      + (colsDims R C n wf).offCoord (ix2 r l) a = _
  have hb : (colsDims R C n wf).batchCoord (ix2 r l) a = 0 := GatherDims.batchCoord_eq_zero _ _ _ (by simp)
  rw [hb]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by simp)]
    simp only [Nat.zero_add]
    split
    · rfl
    · rename_i h
      exact absurd ((GatherDims.mem_sKept _ _).mpr ⟨by simp, by simp⟩) h
  · rw [GatherDims.offCoord_eq_zero _ _ _ (fun h => ((GatherDims.mem_sKept _ _).mp h).1 (List.mem_singleton.mpr rfl))]
    unfold GatherDims.start
    rw [dif_pos (show (1 : Fin 2) ∈ (colsDims R C n wf).startIndexMap from List.mem_singleton.mpr rfl)]
    have hsi : (colsDims R C n wf).siIdx (ix2 r l) ⟨List.idxOf (1 : Fin 2) (colsDims R C n wf).startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi, hk]
    have := k.isLt
    show min k.val (C - 1) + 0 + 0 = k.val
    omega

theorem lit1_eq : ∀ l : Fin 128, lit1 l = if l.val % 64 < 32 then 0x3F800000#32 else 0 := by decide +kernel
theorem lit0_eq : ∀ l : Fin 128, lit0 l = BitVec.ofNat 32 (1536 + (if l.val % 64 < 32 then l.val / 64 * 32 + l.val % 32 else 0)) := by decide +kernel
theorem lit6_eq : ∀ l : Fin 128, lit6 l = if l.val % 64 < 32 then (if l.val < 64 then 0xBF800000#32 else 0x3F800000#32) else 0 := by decide +kernel
theorem lit5_eq : ∀ l : Fin 128, lit5 l = if l.val % 64 < 32 then 1 else 0 := by decide +kernel
theorem lit3_eq : ∀ l : Fin 8192, lit3 l = if l.val % 256 < 128 ∨ l.val % 64 < 32 then 0x3F800000#32 else 0 := by decide +kernel
theorem lit2_eq : ∀ l : Fin 8192, lit2 l = BitVec.ofNat 32 (192 * (l.val / 256) + (if l.val % 256 < 128 then l.val % 256 else 128 + (if l.val % 64 < 32 then l.val % 128 / 64 * 32 + l.val % 32 else 0))) := by decide +kernel

end Cert.KernelIdeal.Attention
-- ==== Proof.Attention.Softmax.lean ====
/- One query's softmax in the two forms the attention takes it in: powers of two of scores that carry the factor
   `1 / log 2`, over the keys up to the end of the query's tile, divided after the weighted sum; and exponentials over
   every key, divided before it. A key the query does not see has the score −∞ in both. -/
module

public import proofs.«01_k».proof.Proof.Scalars

@[expose] public section

noncomputable section

namespace Cert.Attention

open Idealize.ShloMosaic

/-- `x` is a real number: neither infinity. -/
def IsReal (x : EReal) : Prop := ∃ r : ℝ, x = (r : EReal)

namespace IsReal

theorem coe (r : ℝ) : IsReal (r : EReal) := ⟨r, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem sum {ι : Type} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

end IsReal

/-! ## The greatest score and the weights -/

section Row

variable {N : ℕ} (V : Fin N → Prop) [DecidablePred V] (S : Fin N → ℝ)

/-- The scores of a row: −∞ at a key the query does not see. -/
def scores (c : ℝ) (k : Fin N) : EReal := if V k then (S k : EReal) * (c : EReal) else ⊥

/-- The weight of key `k` beside the key `m` of the greatest score. -/
def weight (c : ℝ) (m k : Fin N) : ℝ := if V k then Real.exp ((S k - S m) * c) else 0

theorem weight_nonneg (c : ℝ) (m k : Fin N) : 0 ≤ weight V S c m k := by
  unfold weight; split_ifs
  · exact (Real.exp_pos _).le
  · exact le_rfl

theorem fold_scores {c : ℝ} (hc : 0 < c) {m : Fin N} (hm : V m) (hmax : ∀ k, V k → S k ≤ S m) :
    Finset.univ.fold max ⊥ (scores V S c) = ((S m : ℝ) : EReal) * (c : EReal) := by
  apply le_antisymm
  · rw [Finset.fold_max_le]
    refine ⟨bot_le, fun k _ => ?_⟩
    unfold scores; split_ifs with h
    · rw [← EReal.coe_mul, ← EReal.coe_mul]
      exact EReal.coe_le_coe_iff.mpr (mul_le_mul_of_nonneg_right (hmax k h) hc.le)
    · exact bot_le
  · rw [Finset.le_fold_max]
    exact Or.inr ⟨m, Finset.mem_univ m, by unfold scores; rw [if_pos hm]⟩

theorem exp_scores (c : ℝ) (m k : Fin N) :
    Ideal.exp (scores V S c k - ((S m : ℝ) : EReal) * (c : EReal)) = ((weight V S c m k : ℝ) : EReal) := by
  unfold scores weight; split_ifs
  · rw [← EReal.coe_mul, ← EReal.coe_mul, ← EReal.coe_sub, Ideal.exp_coe, sub_mul]
  · rw [← EReal.coe_mul, EReal.bot_sub, Ideal.exp_bot, EReal.coe_zero]

theorem exp2_scores (c : ℝ) (m k : Fin N) :
    Ideal.exp2 (scores V S (c * (Real.log 2)⁻¹) k - ((S m : ℝ) : EReal) * ((c * (Real.log 2)⁻¹ : ℝ) : EReal))
      = ((weight V S c m k : ℝ) : EReal) := by
  unfold scores weight; split_ifs
  · rw [← EReal.coe_mul, ← EReal.coe_mul, ← EReal.coe_sub, Ideal.exp2_coe, ← sub_mul,
      Real.rpow_eq_pow, Real.rpow_def_of_pos (by norm_num : (0 : ℝ) < 2)]
    congr 2
    have : Real.log 2 ≠ 0 := (Real.log_pos (by norm_num)).ne'
    field_simp
  · rw [← EReal.coe_mul, EReal.bot_sub, Ideal.exp2_bot, EReal.coe_zero]

theorem exists_greatest {k₀ : Fin N} (h₀ : V k₀) : ∃ m, V m ∧ ∀ k, V k → S k ≤ S m := by
  obtain ⟨m, hm, h⟩ := (Finset.univ.filter V).exists_max_image S ⟨k₀, by simpa using h₀⟩
  exact ⟨m, by simpa using hm, fun k hk => h k (by simpa using hk)⟩

theorem weight_self (c : ℝ) {m : Fin N} (hm : V m) : weight V S c m m = 1 := by
  unfold weight; rw [if_pos hm, sub_self, zero_mul, Real.exp_zero]

theorem sum_weight_pos (c : ℝ) {m : Fin N} (hm : V m) : 0 < ∑ k, weight V S c m k :=
  Finset.sum_pos' (fun k _ => weight_nonneg V S c m k) ⟨m, Finset.mem_univ m, by rw [weight_self V S c hm]; norm_num⟩

end Row

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The keys up to `L` -/

/-- A sum over all keys whose terms from `L` on are zero is the sum over the first `L`. -/
theorem sum_first {N L : ℕ} (hL : L ≤ N) (f : Fin N → EReal) (h : ∀ k : Fin N, L ≤ k.val → f k = 0) :
    ∑ k : Fin N, f k = ∑ k : Fin L, f (Fin.castLE hL k) := by
  obtain ⟨d, rfl⟩ := Nat.exists_eq_add_of_le hL
  rw [Fin.sum_univ_add, Finset.sum_eq_zero (s := (Finset.univ : Finset (Fin d))), add_zero]
  · rfl
  · intro k _
    exact h _ (by simp)

/-- THE ROW. The two softmaxes give one weighted sum, the scores real where the query sees, the query seeing a key and
    no key from `L` on. -/
theorem softmax_row {N L : ℕ} (hL : L ≤ N) (V : Fin N → Prop) [DecidablePred V] (S v : Fin N → EReal)
    (hS : ∀ k, V k → IsReal (S k)) (hV : ∀ k, V k → k.val < L) {k₀ : Fin N} (h₀ : V k₀) {c : ℝ} (hc : 0 < c) :
    let a : Fin L → EReal := fun k =>
      if V (Fin.castLE hL k) then S (Fin.castLE hL k) * ((c * (Real.log 2)⁻¹ : ℝ) : EReal) else ⊥
    let p : Fin L → EReal := fun k => Ideal.exp2 (a k - Finset.univ.fold max ⊥ a)
    let b : Fin N → EReal := fun k => if V k then S k * (c : EReal) else ⊥
    let e : Fin N → EReal := fun k => Ideal.exp (b k - Finset.univ.fold max ⊥ b)
    Ideal.div (∑ k, p k * v (Fin.castLE hL k)) (∑ k, p k) = ∑ k, Ideal.div (e k) (∑ k', e k') * v k := by
  intro a p b e
  choose! s hs using hS
  obtain ⟨m, hm, hmax⟩ := exists_greatest V s h₀
  have hb : b = scores V s c := by
    funext k; show (if V k then _ else _) = (if V k then _ else _)
    split_ifs with h
    · rw [hs k h]
    · rfl
  have he : ∀ k, e k = ((weight V s c m k : ℝ) : EReal) := fun k => by
    show Ideal.exp (b k - Finset.univ.fold max ⊥ b) = _
    rw [hb, fold_scores V s hc hm hmax, exp_scores]
  have hc' : 0 < c * (Real.log 2)⁻¹ := mul_pos hc (inv_pos.mpr (Real.log_pos (by norm_num)))
  let V' : Fin L → Prop := fun k => V (Fin.castLE hL k)
  let s' : Fin L → ℝ := fun k => s (Fin.castLE hL k)
  let m' : Fin L := ⟨m.val, hV m hm⟩
  have hm' : Fin.castLE hL m' = m := rfl
  have ha : a = scores V' s' (c * (Real.log 2)⁻¹) := by
    funext k; show (if V _ then _ else _) = (if V _ then _ else _)
    split_ifs with h
    · rw [hs _ h]
    · rfl
  have hp : ∀ k, p k = ((weight V s c m (Fin.castLE hL k) : ℝ) : EReal) := fun k => by
    show Ideal.exp2 (a k - Finset.univ.fold max ⊥ a) = _
    rw [ha, fold_scores V' s' hc' (m := m') hm fun k hk => hmax _ hk]
    exact exp2_scores V' s' c m' k
  have hz : ∀ k : Fin N, L ≤ k.val → weight V s c m k = 0 := fun k hk =>
    if_neg fun h => absurd (hV k h) (not_lt.mpr hk)
  have hsum : ∑ k, e k = ((∑ k, weight V s c m k : ℝ) : EReal) := by
    rw [coe_sum]; exact Finset.sum_congr rfl fun k _ => he k
  have hpos := sum_weight_pos V s c hm
  have hne : ((∑ k, weight V s c m k : ℝ)) ≠ 0 := hpos.ne'
  have h1 : ∑ k, p k = ((∑ k, weight V s c m k : ℝ) : EReal) := by
    rw [coe_sum, sum_first hL _ fun k hk => by rw [hz k hk, EReal.coe_zero]]
    exact Finset.sum_congr rfl fun k _ => hp k
  have h2 : ∑ k, p k * v (Fin.castLE hL k) = ∑ k, ((weight V s c m k : ℝ) : EReal) * v k := by
    rw [sum_first hL _ fun k hk => by rw [hz k hk, EReal.coe_zero, zero_mul]]
    exact Finset.sum_congr rfl fun k _ => by rw [hp k]
  rw [h1, h2, hsum, Ideal.div_coe hne, Scalars.sum_mul_coe _ _ (by positivity)]
  refine Finset.sum_congr rfl fun k _ => ?_
  rw [he k, Ideal.div_coe hne, mul_assoc, mul_assoc, mul_comm (v k)]

end Cert.Attention

end
-- ==== Proof.Attention.Spec.lean ====
/- The attention of one head, written once for both programs: the rotation of the position lanes, the score of a row
   against a key, and which keys a row sees. -/
module

public import Idealize.ShloMosaic.Lib.Pointwise
public import Idealize.ShloMosaic.Lib.Pipeline.ValueKit
public import proofs.«01_k».proof.Proof.Attention.Softmax

@[expose] public section

noncomputable section

namespace Cert.Attention

open Idealize.ShloMosaic

/-- The exponent of the `j`-th rotation frequency, `-2j/64`. -/
def freq (j : Fin 32) : EReal := ((-(j.val : ℝ) / 32 : ℝ) : EReal)

variable (Q : (⟨3, ![4, 2048, 6144]⟩ : Shape).Idx → EReal) (KV : (⟨3, ![4, 2048, 8192]⟩ : Shape).Idx → EReal)
  (L : (⟨3, ![4, 2048, 1600]⟩ : Shape).Idx → EReal) (P : (⟨2, ![4, 2048]⟩ : Shape).Idx → BitVec 32)

/-- The angle by which the `j`-th pair of lanes turns at row `s` of sequence `b`. -/
def angle (b : Fin 4) (s : Fin 2048) (j : Fin 32) : EReal :=
  FloatOps.sitofp (F := Ideal) .f32 (P (ix2 b s)) * Ideal.pow (Ideal.ofBits .f32 0x461C4000#32) (freq j)

/-- Sixty-four lanes, each pair `(j, j + 32)` turned by its angle. -/
def turned (x : Fin 64 → EReal) (θ : Fin 32 → EReal) (e : Fin 64) : EReal :=
  if h : e.val < 32 then x e * Ideal.cos (θ ⟨e.val, h⟩) - x ⟨e.val + 32, by omega⟩ * Ideal.sin (θ ⟨e.val, h⟩)
  else x e * Ideal.cos (θ ⟨e.val - 32, by omega⟩) + x ⟨e.val - 32, by omega⟩ * Ideal.sin (θ ⟨e.val - 32, by omega⟩)

/-- Head `h`'s query lanes without a position. -/
def qn (b : Fin 4) (s : Fin 2048) (h : Fin 32) (l : Fin 128) : EReal := Q (ix3 b s ⟨192 * h.val + l.val, by omega⟩)
/-- Head `h`'s query lanes with one. -/
def qr (b : Fin 4) (s : Fin 2048) (h : Fin 32) (e : Fin 64) : EReal := Q (ix3 b s ⟨192 * h.val + 128 + e.val, by omega⟩)
/-- Head `h`'s key lanes without a position. -/
def kn (b : Fin 4) (s : Fin 2048) (h : Fin 32) (l : Fin 128) : EReal := KV (ix3 b s ⟨256 * h.val + l.val, by omega⟩)
/-- Head `h`'s values. -/
def vl (b : Fin 4) (s : Fin 2048) (h : Fin 32) (d : Fin 128) : EReal := KV (ix3 b s ⟨256 * h.val + 128 + d.val, by omega⟩)
/-- The key lanes with a position, which all heads share. -/
def kr (b : Fin 4) (s : Fin 2048) (e : Fin 64) : EReal := L (ix3 b s ⟨1536 + e.val, by omega⟩)

/-- The score of row `a` against key `k`, before the scale and the mask. -/
def logit (b : Fin 4) (h : Fin 32) (a k : Fin 2048) : EReal :=
  (∑ l : Fin 128, qn Q b a h l * kn KV b k h l)
    + ∑ e : Fin 64, turned (qr Q b a h) (angle P b a) e * turned (kr L b k) (angle P b k) e

/-- Row `a` sees key `k`: `k`'s chunk of 64 rows is not after `a`'s. -/
def Sees (a k : Fin 2048) : Prop := k.val / 64 ≤ a.val / 64

instance (a : Fin 2048) : DecidablePred (Sees a) := fun k => Nat.decLe (k.val / 64) (a.val / 64)

/-- A score scaled, or hidden. -/
def seen (b : Fin 4) (h : Fin 32) (a k : Fin 2048) : EReal :=
  if Sees a k then logit Q KV L P b h a k * (((Real.sqrt 192)⁻¹ : ℝ) : EReal) else ⊥

/-- The softmax's numerator. -/
def mass (b : Fin 4) (h : Fin 32) (a k : Fin 2048) : EReal :=
  Ideal.exp (seen Q KV L P b h a k - Finset.univ.fold max ⊥ (seen Q KV L P b h a))

/-- The attention of head `h` at row `a` of sequence `b`, lane `d`. -/
def attend (b : Fin 4) (h : Fin 32) (a : Fin 2048) (d : Fin 128) : EReal :=
  ∑ k : Fin 2048, Ideal.div (mass Q KV L P b h a k) (∑ k' : Fin 2048, mass Q KV L P b h a k') * vl KV b k h d

end Cert.Attention

end
-- ==== Proof.Attention.Host.lean ====
/- What the attention call's host lines leave in the arrays it reads, at an index. -/
module

public import Idealize.ShloMosaic.Lib.Pointwise
public import Idealize.ShloMosaic.Lib.Pipeline.ValueKit
public import Idealize.ShloMosaic.Lib.Claim
public import proofs.«01_k».proof.Proof.Gen.KernelIdeal.Value
public import proofs.«01_k».proof.Proof.Attention.Tables
public import proofs.«01_k».proof.Proof.Attention.Spec
public import proofs.«01_k».proof.Proof.Rows
public import proofs.«01_k».proof.Proof.Scalars

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Rows Cert.Attention

/-- The lane that holds the `e`-th of the 64 lanes with a position. -/
def lane (e : Fin 64) : Fin 128 := ⟨64 * (e.val / 32) + e.val % 32, by omega⟩

theorem first128 (l : Fin 128) : (S128.rowMajor (ix1 l) : Fin 128) = l := Fin.ext (Shape.rowMajor_val_one _)
theorem first8192 (l : Fin 8192) : (S8192.rowMajor (ix1 l) : Fin 8192) = l := Fin.ext (Shape.rowMajor_val_one _)

/-- The exponents' table. -/
theorem freq_tab : ∀ j : Fin 32, Ideal.ofBits .f32 (lit4 ⟨j.val, by omega⟩) = freq j := by
  intro j
  unfold freq
  fin_cases j <;> simp [lit4, Ideal.ofBits, Ideal.ieee, -EReal.coe_mul] <;> norm_num

theorem lit4_lane : ∀ e : Fin 64, lit4 (lane e) = lit4 ⟨e.val % 32, by omega⟩ := by decide +kernel

variable (m : (ℓ : Loc nD τ sig) → Buf (Elt Ideal) ℓ)

/-- The four arguments as launched. -/
abbrev argQ (c : Dev nD) : S4x2048x6144.Idx → Elt Ideal .f32 := m ((c : Thread nD τ).loc main_arg0)
abbrev argKV (c : Dev nD) : S4x2048x8192.Idx → Elt Ideal .f32 := m ((c : Thread nD τ).loc main_arg1)
abbrev argL (c : Dev nD) : S4x2048x1600.Idx → Elt Ideal .f32 := m ((c : Thread nD τ).loc main_arg2)
abbrev argP (c : Dev nD) : S4x2048.Idx → Elt Ideal .i32 := m ((c : Thread nD τ).loc main_arg3)

/-- The queries' columns selected and masked. -/
theorem V_q (c : Dev nD) (r : Fin 8192) (j : Fin 8192) (k : Fin 6144) (hk : (lit2 j).toInt.toNat = k.val) :
    (V m c main_v19 : S8192x8192.Idx → Elt Ideal .f32) (ix2 r j) = row (argQ m c) r k * Ideal.ofBits .f32 (lit3 j) := by
  simp only [V, hostOps0, hostOps0_1, hostOps0_2, List.flatten_cons, List.flatten_nil, List.append_nil, List.cons_append, List.nil_append]
  after_results
  pointwise
  refine congrArg₂ (· * ·) ((cols_apply _ _ _ r j k ?_).trans rfl) ?_
  · pointwise
    exact (congrArg (fun x : Fin 8192 => (lit2 x).toInt.toNat) (first8192 j)).trans hk
  · exact congrArg (fun x : Fin 8192 => Ideal.ofBits .f32 (lit3 x)) (first8192 j)

/-- The keys' lanes with a position, selected and masked. -/
theorem V_l (c : Dev nD) (r : Fin 8192) (l : Fin 128) (k : Fin 1600) (hk : (lit0 l).toInt.toNat = k.val) :
    (V m c main_v10 : S8192x1664.Idx → Elt Ideal .f32) (ix2 r ⟨1536 + l.val, by omega⟩) = row (argL m c) r k * Ideal.ofBits .f32 (lit1 l) := by
  simp only [V, hostOps0, hostOps0_1, hostOps0_2, List.flatten_cons, List.flatten_nil, List.append_nil, List.cons_append, List.nil_append]
  after_results
  pointwise
  refine congrArg₂ (· * ·) ((cols_apply _ _ _ r l k ?_).trans rfl) ?_
  · pointwise
    exact (congrArg (fun x : Fin 128 => (lit0 x).toInt.toNat) (first128 l)).trans hk
  · exact congrArg (fun x : Fin 128 => Ideal.ofBits .f32 (lit1 x)) (first128 l)

/-- The keys of head `h`. -/
theorem V_k (c : Dev nD) (r : Fin 8192) (h : Fin 32) (d : Fin 128) :
    (V m c main_v23 : S8192x8192.Idx → Elt Ideal .bf16) (ix2 r ⟨128 * h.val + d.val, by omega⟩) = row (argKV m c) r ⟨256 * h.val + d.val, by omega⟩ := by
  simp only [V, hostOps0, hostOps0_1, hostOps0_2, List.flatten_cons, List.flatten_nil, List.append_nil, List.cons_append, List.nil_append]
  after_results
  unfold row
  pointwise
  congr 1
  blk_ext <;> omega

/-- The values of head `h`. -/
theorem V_v (c : Dev nD) (r : Fin 8192) (h : Fin 32) (d : Fin 128) :
    (V m c main_v23 : S8192x8192.Idx → Elt Ideal .bf16) (ix2 r ⟨4096 + 128 * h.val + d.val, by omega⟩) = row (argKV m c) r ⟨256 * h.val + 128 + d.val, by omega⟩ := by
  simp only [V, hostOps0, hostOps0_1, hostOps0_2, List.flatten_cons, List.flatten_nil, List.append_nil, List.cons_append, List.nil_append]
  after_results
  unfold row
  pointwise
  congr 1
  blk_ext <;> omega

/-- A row's angle at a lane, as the host computes it. -/
def hostAngle (c : Dev nD) (r : Fin 8192) (l : Fin 128) : EReal :=
  FloatOps.sitofp (F := Ideal) .f32 (argP m c (ix2 ⟨r.val / 2048, by omega⟩ ⟨r.val % 2048, by omega⟩))
    * Scalar.select (lit5 l) (Ideal.pow (Ideal.ofBits .f32 0x461C4000#32) (Ideal.ofBits .f32 (lit4 l))) (Ideal.ofBits .f32 0x00000000#32)

theorem V_cos (c : Dev nD) (r : Fin 8192) (l : Fin 128) :
    (V m c main_v33 : S8192x128.Idx → Elt Ideal .f32) (ix2 r l) = Ideal.cos (hostAngle m c r l) := by
  simp only [V, hostOps0, hostOps0_1, hostOps0_2, List.flatten_cons, List.flatten_nil, List.append_nil, List.cons_append, List.nil_append]
  after_results
  pointwise
  exact congrArg (fun x => Ideal.cos (_ * x)) (congrArg (fun x : Fin 128 => Scalar.select (lit5 x)
    (Ideal.pow (Ideal.ofBits .f32 0x461C4000#32) (Ideal.ofBits .f32 (lit4 x))) (Ideal.ofBits .f32 0x00000000#32)) (first128 l))

theorem V_sin (c : Dev nD) (r : Fin 8192) (l : Fin 128) :
    (V m c main_v37 : S8192x128.Idx → Elt Ideal .f32) (ix2 r l) = Ideal.sin (hostAngle m c r l) * Ideal.ofBits .f32 (lit6 l) := by
  simp only [V, hostOps0, hostOps0_1, hostOps0_2, List.flatten_cons, List.flatten_nil, List.append_nil, List.cons_append, List.nil_append]
  after_results
  pointwise
  exact congrArg₂ (· * ·) (congrArg (fun x => Ideal.sin (_ * x)) (congrArg (fun x : Fin 128 => Scalar.select (lit5 x)
    (Ideal.pow (Ideal.ofBits .f32 0x461C4000#32) (Ideal.ofBits .f32 (lit4 x))) (Ideal.ofBits .f32 0x00000000#32)) (first128 l)))
    (congrArg (fun x : Fin 128 => Ideal.ofBits .f32 (lit6 x)) (first128 l))

/-! ## In the terms both programs share -/

/-- Row `s` of sequence `b` among all the rows. -/
abbrev rowOf (b : Fin 4) (s : Fin 2048) : Fin 8192 := ⟨2048 * b.val + s.val, by omega⟩

theorem row_at {N : ℕ} {α : Type} (x : (⟨3, ![4, 2048, N]⟩ : Shape).Idx → α) (b : Fin 4) (s : Fin 2048) (k : Fin N) :
    row x (rowOf b s) k = x (ix3 b s k) := by
  unfold row
  congr 1
  blk_ext <;> omega

theorem toNat_word {n : ℕ} (h : n < 2 ^ 31) : (BitVec.ofNat 32 n).toInt.toNat = n := by
  rw [BitVec.toInt_ofNat']
  simp only [Int.bmod]
  omega

theorem one_bits : Ideal.ofBits .f32 0x3F800000#32 = (1 : EReal) := by
  simp [Ideal.ofBits, Ideal.ieee, -EReal.coe_mul]
  norm_cast
  norm_num
theorem neg_one_bits : Ideal.ofBits .f32 0xBF800000#32 = (-1 : EReal) := by
  simp [Ideal.ofBits, Ideal.ieee, -EReal.coe_mul]
  norm_cast
  norm_num
theorem zero_bits : Ideal.ofBits .f32 0 = (0 : EReal) := by
  simp [Ideal.ofBits, Ideal.ieee, -EReal.coe_mul]

variable (c : Dev nD) (b : Fin 4) (s : Fin 2048) (h : Fin 32)

theorem q_nope (l : Fin 128) : (V m c main_v19 : S8192x8192.Idx → Elt Ideal .f32) (ix2 (rowOf b s) ⟨256 * h.val + l.val, by omega⟩)
    = qn (argQ m c) b s h l := by
  rw [V_q m c _ _ ⟨192 * h.val + l.val, by omega⟩ (by
    rw [lit2_eq]
    dsimp only
    rw [if_pos (by omega), toNat_word (by omega)]
    omega), lit3_eq, if_pos (Or.inl (by dsimp only; omega)), one_bits, mul_one, row_at]
  rfl

theorem q_lane (e : Fin 64) : (V m c main_v19 : S8192x8192.Idx → Elt Ideal .f32)
    (ix2 (rowOf b s) ⟨256 * h.val + 128 + (lane e).val, by unfold lane; dsimp only; omega⟩) = qr (argQ m c) b s h e := by
  unfold lane
  rw [V_q m c _ _ ⟨192 * h.val + 128 + e.val, by omega⟩ (by
    rw [lit2_eq]
    dsimp only
    rw [if_neg (by omega), if_pos (by omega), toNat_word (by omega)]
    omega), lit3_eq, if_pos (Or.inr (by dsimp only; omega)), one_bits, mul_one, row_at]
  rfl

theorem q_off (l : Fin 128) (hl : ¬ l.val % 64 < 32) : (V m c main_v19 : S8192x8192.Idx → Elt Ideal .f32)
    (ix2 (rowOf b s) ⟨256 * h.val + 128 + l.val, by omega⟩) = (0 : EReal) := by
  rw [V_q m c _ _ ⟨192 * h.val + 128, by omega⟩ (by
    rw [lit2_eq]
    dsimp only
    rw [if_neg (by omega), if_neg (by omega), toNat_word (by omega)]
    omega), lit3_eq, if_neg (by dsimp only; omega), zero_bits, mul_zero]

theorem l_lane (e : Fin 64) : (V m c main_v10 : S8192x1664.Idx → Elt Ideal .f32)
    (ix2 (rowOf b s) ⟨1536 + (lane e).val, by unfold lane; dsimp only; omega⟩) = kr (argL m c) b s e := by
  rw [V_l m c _ _ ⟨1536 + e.val, by omega⟩ (by
    rw [lit0_eq]
    unfold lane
    dsimp only
    rw [if_pos (by omega), toNat_word (by omega)]
    omega), lit1_eq, if_pos (by unfold lane; dsimp only; omega), one_bits, mul_one, row_at]
  rfl

theorem l_off (l : Fin 128) (hl : ¬ l.val % 64 < 32) : (V m c main_v10 : S8192x1664.Idx → Elt Ideal .f32)
    (ix2 (rowOf b s) ⟨1536 + l.val, by omega⟩) = (0 : EReal) := by
  rw [V_l m c _ _ ⟨1536, by omega⟩ (by
    rw [lit0_eq, if_neg hl, toNat_word (by omega)]), lit1_eq, if_neg hl, zero_bits, mul_zero]

theorem angle_lane (e : Fin 64) : hostAngle m c (rowOf b s) (lane e) = angle (argP m c) b s ⟨e.val % 32, by omega⟩ := by
  unfold hostAngle angle
  rw [lit5_eq, if_pos (by unfold lane; dsimp only; omega), lit4_lane, freq_tab ⟨e.val % 32, by omega⟩]
  refine congrArg₂ (· * ·) (congrArg (FloatOps.sitofp (F := Ideal) .f32) (congrArg (argP m c) ?_)) rfl
  blk_ext <;> omega

theorem sign_lane (e : Fin 64) : Ideal.ofBits .f32 (lit6 (lane e)) = if e.val < 32 then (-1 : EReal) else 1 := by
  rw [lit6_eq, if_pos (by unfold lane; dsimp only; omega)]
  by_cases he : e.val < 32
  · rw [if_pos (by unfold lane; dsimp only; omega), if_pos he, neg_one_bits]
  · rw [if_neg (by unfold lane; dsimp only; omega), if_neg he, one_bits]

end Cert.KernelIdeal.Attention

end
-- ==== Proof.Attention.Head.lean ====
/- One head of one tile of 256 queries, as the kernel's body prints it for each of the eight tile positions of a
   sequence, read at a row and a lane. -/
module

public import Idealize.ShloMosaic.Lib.Pointwise
public import Idealize.ShloMosaic.Lib.Pipeline.ValueKit
public import Idealize.ShloMosaic.Lib.Claim
public import proofs.«01_k».proof.Proof.Gen.KernelIdeal.Value

@[expose] public section

set_option maxRecDepth 16384

noncomputable section

namespace Cert.KernelIdeal.Attention

open Cert.KernelIdeal Cert.KernelIdeal.Gen Idealize.ShloMosaic Idealize.ShloMosaic.TcCoe Idealize.SL.Sem

/-- The scale the queries carry. -/
def qscale : EReal := (Named.named (F := Ideal) κ "qscale" 0x3DD53B95#32 : Ideal FTy.f32)

/-- The score of a key the query does not see. -/
def hidden : EReal := (Named.named (F := Ideal) κ "mask" 0xF149F2CA#32 : Ideal FTy.f32)

/-- The score of key `x` for one query, with the scale: the plain lanes, then the turned lanes. -/
def score {L : ℕ} (cq sq qr qn : Fin 128 → EReal) (k : Fin L → Fin 256 → EReal) (x : Fin L) : EReal :=
  (∑ l : Fin 128, qn l * qscale * k x ⟨l.val, by omega⟩)
    + ∑ l : Fin 128, (qr l * cq l + qr ⟨(l.val + 128 - 64) % 128, by omega⟩ * sq l)
        * qscale * k x ⟨128 + l.val, by omega⟩

/-- The scores of a row over the keys up to the end of its tile: the last 256 are those of the tile itself, and only
    those the query sees keep their score. -/
def masked (i : Fin 8) (ok : Fin 256 → BitVec 1) (s : Fin (256 * (i.val + 1)) → EReal)
    (x : Fin (256 * (i.val + 1))) : EReal :=
  if h : x.val < 256 * i.val then s x
  else Scalar.select (ok ⟨x.val - 256 * i.val, by omega⟩) (s x) hidden

/-- The weighted mean of the values by powers of two of the scores beside the greatest: lane 128 of the values holds
    the ones that make the sum of the weights. -/
def mean {L : ℕ} (s : Fin L → EReal) (v : Fin L → Fin 256 → EReal) (d : Fin 128) : EReal :=
  Ideal.div
    (∑ x, Ideal.exp2 (s x - Finset.univ.fold max (Ideal.ofBits FTy.f32 0xFF800000#32) s) * v x ⟨d.val, by omega⟩)
    (∑ x, Ideal.exp2 (s x - Finset.univ.fold max (Ideal.ofBits FTy.f32 0xFF800000#32) s) * v x ⟨128, by omega⟩)

/-- The shape of a head's keys, and of its values, up to the end of tile `i`. -/
abbrev Keys (i : Fin 8) : Shape := ⟨3, ![1, 256 * (i.val + 1), 256]⟩

/-- The head the body prints for tile position `i`. -/
def head (i : Fin 8) (cq sq : FVec Ideal S256x128 .f32) (ok : IVec S256x256 1) (qr qn : Vec Ideal S256x128 .f32)
    (k v : Vec Ideal (Keys i) .bf16) : FVec Ideal S256x128 .bf16 :=
  match i, k, v with
  | 0, k, v => k0_pay36 cq sq ok qr qn k v
  | 1, k, v => k0_pay51 cq sq ok qr qn k v
  | 2, k, v => k0_pay69 cq sq ok qr qn k v
  | 3, k, v => k0_pay87 cq sq ok qr qn k v
  | 4, k, v => k0_pay105 cq sq ok qr qn k v
  | 5, k, v => k0_pay123 cq sq ok qr qn k v
  | 6, k, v => k0_pay141 cq sq ok qr qn k v
  | 7, k, v => k0_pay159 cq sq ok qr qn k v

/-- What the head at tile position `i` holds at a row and a lane. -/
def Reads (i : Fin 8) : Prop :=
  ∀ (cq sq : FVec Ideal S256x128 .f32) (ok : IVec S256x256 1) (qr qn : Vec Ideal S256x128 .f32)
    (k v : Vec Ideal (Keys i) .bf16) (a : Fin 256) (d : Fin 128),
    head i cq sq ok qr qn k v (ix2 a d)
      = mean (masked i (fun x => ok (ix2 a x)) (score (fun l => cq (ix2 a l)) (fun l => sq (ix2 a l))
          (fun l => qr (ix2 a l)) (fun l => qn (ix2 a l)) fun x j => k (ix3 0 x j))) (fun x j => v (ix3 0 x j)) d

theorem mean_congr {L : ℕ} {s t : Fin L → EReal} (h : ∀ x, s x = t x) (v : Fin L → Fin 256 → EReal) (d : Fin 128) :
    mean s v d = mean t v d := by rw [funext h]

set_option maxHeartbeats 1000000 in
theorem reads (i : Fin 8) : Reads i := by
  intro cq sq ok qr qn k v a d
  match i, k, v with
  | 0, k, v =>
    dsimp only [head, k0_pay36]
    generalize hw : (select ok _ _ : FVec Ideal S256x256 .f32) = w
    refine Eq.trans (b := mean (fun x => w (ix2 a x)) (fun x j => v (ix3 0 x j)) d) (by pointwise; rfl) (mean_congr (fun x => ?_) _ d)
    subst hw
    pointwise
    rfl
  | 1, k, v | 2, k, v | 3, k, v | 4, k, v | 5, k, v | 6, k, v | 7, k, v =>
    dsimp only [head, k0_pay51, k0_pay69, k0_pay87, k0_pay105, k0_pay123, k0_pay141, k0_pay159]
    first
      | (generalize hw : (concatenate S256x512 1 _ _ : FVec Ideal S256x512 .f32) = w; fail_if_success clear hw w)
      | (generalize hw : (concatenate S256x768 1 _ _ : FVec Ideal S256x768 .f32) = w; fail_if_success clear hw w)
      | (generalize hw : (concatenate S256x1024 1 _ _ : FVec Ideal S256x1024 .f32) = w; fail_if_success clear hw w)
      | (generalize hw : (concatenate S256x1280 1 _ _ : FVec Ideal S256x1280 .f32) = w; fail_if_success clear hw w)
      | (generalize hw : (concatenate S256x1536 1 _ _ : FVec Ideal S256x1536 .f32) = w; fail_if_success clear hw w)
      | (generalize hw : (concatenate S256x1792 1 _ _ : FVec Ideal S256x1792 .f32) = w; fail_if_success clear hw w)
      | (generalize hw : (concatenate S256x2048 1 _ _ : FVec Ideal S256x2048 .f32) = w; fail_if_success clear hw w)
    refine Eq.trans (b := mean (fun x => w (ix2 a x)) (fun x j => v (ix3 0 x j)) d) (by pointwise; rfl) (mean_congr (fun x => ?_) _ d)
    subst hw
    pointwise
    unfold masked
    refine Eq.trans (dite_congr rfl (fun h => ?_) fun h => ?_) rfl
    · rfl
    · have hx : ∀ hh, (⟨_ + (x.val - _), hh⟩ : Fin _) = x := fun _ => Fin.ext (Nat.add_sub_cancel' (Nat.le_of_not_lt h))
      simp only [hx]
      rfl

end Cert.KernelIdeal.Attention
-- ==== Proof.Attention.Tile.lean ====
/- What a grid point leaves in its block of the result: head by head, the head the body prints for the point's tile
   position, of the query block and of the head's keys and values the scratch holds. -/
module

public import Idealize.ShloMosaic.Lib.Pointwise
public import Idealize.ShloMosaic.Lib.Pipeline.ValueKit
public import Idealize.ShloMosaic.Lib.Pipeline.ReadBack
public import Idealize.ShloMosaic.Lib.Claim
public import proofs.«01_k».proof.Proof.Attention.Head

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Head `hd` of a tile at position `i`, of the query block and the scratch that holds the keys and the values. -/
def headAt (i : Fin 8) (cq sq : FVec Ideal S256x128 .f32) (q : Vec Ideal S256x2048 .f32) (kf vf : Vec Ideal S8x2048x256 .bf16)
    (hd : Fin 8) : FVec Ideal S256x128 .bf16 :=
  head i cq sq (k0_pay183 : IVec S256x256 1)
    (View.ld q (Rect.unit ![0, 256 * hd.val + 128] ![256, 128] (by intro k; fin_cases k <;> simp <;> omega)))
    (View.ld q (Rect.unit ![0, 256 * hd.val] ![256, 128] (by intro k; fin_cases k <;> simp <;> omega)))
    (View.ld kf (Rect.unit ![hd.val, 0, 0] ![1, 256 * (i.val + 1), 256] (by intro k; fin_cases k <;> simp <;> omega)))
    (View.ld vf (Rect.unit ![hd.val, 0, 0] ![1, 256 * (i.val + 1), 256] (by intro k; fin_cases k <;> simp <;> omega)))

theorem headAt_apply (i : Fin 8) (cq sq : FVec Ideal S256x128 .f32) (q : Vec Ideal S256x2048 .f32)
    (kf vf : Vec Ideal S8x2048x256 .bf16) (hd : Fin 8) (a : Fin 256) (d : Fin 128) :
    headAt i cq sq q kf vf hd (ix2 a d)
      = mean (masked i (fun x => (k0_pay183 : IVec S256x256 1) (ix2 a x))
          (score (fun l => cq (ix2 a l)) (fun l => sq (ix2 a l))
            (fun l => q (ix2 a ⟨256 * hd.val + 128 + l.val, by omega⟩)) (fun l => q (ix2 a ⟨256 * hd.val + l.val, by omega⟩))
            fun x j => kf (ix3 hd ⟨x.val, by omega⟩ j)))
          (fun x j => vf (ix3 hd ⟨x.val, by omega⟩ j)) d := by
  refine (reads i _ _ _ _ _ _ _ a d).trans ?_
  have e1 : ∀ (o : ℕ) (h) (ho : o + 128 ≤ 2048) (l : Fin 128), View.ld q (Rect.unit ![0, o] ![256, 128] h) (ix2 a l) = q (ix2 a ⟨o + l.val, by omega⟩) := by
    intro o h ho l
    exact congrArg q (by funext k; fin_cases k <;> exact Fin.ext (by simp))
  have e2 : ∀ (f : Vec Ideal S8x2048x256 .bf16) (h) (x : Fin (256 * (i.val + 1))) (j : Fin 256),
      View.ld f (Rect.unit ![hd.val, 0, 0] ![1, 256 * (i.val + 1), 256] h) (ix3 0 x j) = f (ix3 hd ⟨x.val, by omega⟩ j) := by
    intro f h x j
    exact congrArg f (by funext k; fin_cases k <;> exact Fin.ext (by simp))
  simp only [e1 _ _ (by omega : 256 * hd.val + 128 + 128 ≤ 2048), e1 _ _ (by omega : 256 * hd.val + 128 ≤ 2048),
    funext fun x => funext fun j => e2 kf _ x j, funext fun x => funext fun j => e2 vf _ x j]

/-- Eight stores side by side, one for each head: column `128 hd + d` is lane `d` of head `hd`. -/
theorem canon_heads (P : Fin 8 → FVec Ideal S256x128 .bf16) {p0 p1 p2 p3 p4 p5 p6 p7 : FVec Ideal S256x128 .bf16}
    (h0 : p0 = P 0) (h1 : p1 = P 1) (h2 : p2 = P 2) (h3 : p3 = P 3) (h4 : p4 = P 4) (h5 : p5 = P 5) (h6 : p6 = P 6)
    (h7 : p7 = P 7) (hd : Fin 8) (a : Fin 256) (d : Fin 128) :
    View.canon (Val := Elt Ideal) (s := S256x1024) (e := .bf16)
      [⟨Rect.unit ![0, 896] ![256, 128] inb_S256x1024_S256x128_0_896, p7⟩,
       ⟨Rect.unit ![0, 768] ![256, 128] inb_S256x1024_S256x128_0_768, p6⟩,
       ⟨Rect.unit ![0, 640] ![256, 128] inb_S256x1024_S256x128_0_640, p5⟩,
       ⟨Rect.unit ![0, 512] ![256, 128] inb_S256x1024_S256x128_0_512, p4⟩,
       ⟨Rect.unit ![0, 384] ![256, 128] inb_S256x1024_S256x128_0_384, p3⟩,
       ⟨Rect.unit ![0, 256] ![256, 128] inb_S256x1024_S256x128_0_256, p2⟩,
       ⟨Rect.unit ![0, 128] ![256, 128] inb_S256x1024_S256x128_0_128, p1⟩,
       ⟨Rect.unit ![0, 0] ![256, 128] inb_S256x1024_S256x128_0_0, p0⟩] (ix2 a ⟨128 * hd.val + d.val, by omega⟩) = P hd (ix2 a d) := by
  subst h0 h1 h2 h3 h4 h5 h6 h7
  canon_tiles x h
  all_goals
    have h0' : a.val = (x 0).val := h0
    have h1' : 128 * hd.val + d.val = _ := h1
    have hx : x = ix2 a d := by
      funext k; fin_cases k
      · exact Fin.ext h0'.symm
      · exact Fin.ext (by show (x 1).val = d.val; omega)
    rw [hx]
    exact congrArg (fun i => P i (ix2 a d)) (Fin.ext (by show _ = hd.val; omega))

/-- A point that is not the first of its batch and head group: its scratch is the point before's. -/
theorem tile_later (c : Dev nD) (t : Fin cfg0.N) (i : Fin 8) (h : t.val % 8 = i.val) (h0 : i.val ≠ 0) (hd : Fin 8) (a : Fin 256)
    (d : Fin 128) :
    (outsAt0 m c t.val t.isLt).1 (ix2 a ⟨128 * hd.val + d.val, by omega⟩)
      = headAt i (k0_pay181 (iblk m c 4 t)) (k0_pay182 (iblk m c 5 t)) (iblk m c 0 t)
          (outsAt0 m c (t.val - 1) (Nat.lt_of_le_of_lt (Nat.sub_le _ _) t.isLt)).2.1
          (outsAt0 m c (t.val - 1) (Nat.lt_of_le_of_lt (Nat.sub_le _ _) t.isLt)).2.2.1 hd (ix2 a d)
    ∧ (outsAt0 m c t.val t.isLt).2 = (outsAt0 m c (t.val - 1) (Nat.lt_of_le_of_lt (Nat.sub_le _ _) t.isLt)).2 := by
  generalize hn : outsAt0 m c (t.val - 1) (Nat.lt_of_le_of_lt (Nat.sub_le _ _) t.isLt) = before
  match i with
  | 0 => exact absurd rfl h0
  | 1 | 2 | 3 | 4 | 5 | 6 | 7 =>
  first
    | rw [outsAt0_B m c t (by omega) (by omega) (by omega) (by omega) (by omega) (by omega) (by omega) (by omega) (by omega) (by omega)]
    | rw [outsAt0_C m c t (by omega) (by omega) (by omega) (by omega) (by omega) (by omega) (by omega) (by omega) (by omega) (by omega)]
    | rw [outsAt0_D m c t (by omega) (by omega) (by omega) (by omega) (by omega) (by omega) (by omega) (by omega) (by omega) (by omega)]
    | rw [outsAt0_E m c t (by omega) (by omega) (by omega) (by omega) (by omega) (by omega) (by omega) (by omega) (by omega) (by omega)]
    | rw [outsAt0_F m c t (by omega) (by omega) (by omega) (by omega) (by omega) (by omega) (by omega) (by omega) (by omega) (by omega)]
    | rw [outsAt0_G m c t (by omega) (by omega) (by omega) (by omega) (by omega) (by omega) (by omega) (by omega) (by omega) (by omega)]
    | rw [outsAt0_H m c t (by omega) (by omega) (by omega) (by omega) (by omega) (by omega) (by omega) (by omega) (by omega) (by omega)]
  rw [hn]
  refine ⟨?_, rfl⟩
  dsimp only
  frame_out
  simp only [read_unread_whole]
  generalize (iblk m c 0 t : Vec Ideal S256x2048 .f32) = q
  generalize k0_pay181 (iblk m c 4 t) = cq
  generalize k0_pay182 (iblk m c 5 t) = sq
  refine canon_heads (headAt _ cq sq q before.2.1 before.2.2.1) ?_ ?_ ?_ ?_ ?_ ?_ ?_ ?_ hd a d <;> rfl

/-- The stores that fill a scratch: for each head the lanes below 128, then those above. -/
def fills (P Q : Fin 8 → FVec Ideal S1x2048x128 .bf16) : List (View.Piece (Elt Ideal) S8x2048x256 .bf16) :=
  [⟨Rect.unit ![7, 0, 128] ![1, 2048, 128] inb_S8x2048x256_S1x2048x128_7_0_128, Q 7⟩,
   ⟨Rect.unit ![7, 0, 0] ![1, 2048, 128] inb_S8x2048x256_S1x2048x128_7_0_0, P 7⟩,
   ⟨Rect.unit ![6, 0, 128] ![1, 2048, 128] inb_S8x2048x256_S1x2048x128_6_0_128, Q 6⟩,
   ⟨Rect.unit ![6, 0, 0] ![1, 2048, 128] inb_S8x2048x256_S1x2048x128_6_0_0, P 6⟩,
   ⟨Rect.unit ![5, 0, 128] ![1, 2048, 128] inb_S8x2048x256_S1x2048x128_5_0_128, Q 5⟩,
   ⟨Rect.unit ![5, 0, 0] ![1, 2048, 128] inb_S8x2048x256_S1x2048x128_5_0_0, P 5⟩,
   ⟨Rect.unit ![4, 0, 128] ![1, 2048, 128] inb_S8x2048x256_S1x2048x128_4_0_128, Q 4⟩,
   ⟨Rect.unit ![4, 0, 0] ![1, 2048, 128] inb_S8x2048x256_S1x2048x128_4_0_0, P 4⟩,
   ⟨Rect.unit ![3, 0, 128] ![1, 2048, 128] inb_S8x2048x256_S1x2048x128_3_0_128, Q 3⟩,
   ⟨Rect.unit ![3, 0, 0] ![1, 2048, 128] inb_S8x2048x256_S1x2048x128_3_0_0, P 3⟩,
   ⟨Rect.unit ![2, 0, 128] ![1, 2048, 128] inb_S8x2048x256_S1x2048x128_2_0_128, Q 2⟩,
   ⟨Rect.unit ![2, 0, 0] ![1, 2048, 128] inb_S8x2048x256_S1x2048x128_2_0_0, P 2⟩,
   ⟨Rect.unit ![1, 0, 128] ![1, 2048, 128] inb_S8x2048x256_S1x2048x128_1_0_128, Q 1⟩,
   ⟨Rect.unit ![1, 0, 0] ![1, 2048, 128] inb_S8x2048x256_S1x2048x128_1_0_0, P 1⟩,
   ⟨Rect.unit ![0, 0, 128] ![1, 2048, 128] inb_S8x2048x256_S1x2048x128_0_0_128, Q 0⟩,
   ⟨Rect.unit ![0, 0, 0] ![1, 2048, 128] inb_S8x2048x256_S1x2048x128_0_0_0, P 0⟩]

theorem canon_fills (P Q : Fin 8 → FVec Ideal S1x2048x128 .bf16) (hd : Fin 8) (r : Fin 2048) (j : Fin 256) :
    View.canon (fills P Q) (ix3 hd r j)
      = if h : j.val < 128 then P hd (ix3 0 r ⟨j.val, h⟩) else Q hd (ix3 0 r ⟨j.val - 128, by omega⟩) := by
  unfold fills
  canon_tiles x h
  all_goals
    have h0' : hd.val = _ := h0
    have h1' : r.val = _ := h1
    have h2' : j.val = _ := h2
    split_ifs with hj
    · first
        | (exfalso; omega)
        | (have hx : x = ix3 0 r ⟨j.val, hj⟩ := by
            funext k; fin_cases k
            · exact Fin.ext (by show (x 0).val = 0; omega)
            · exact Fin.ext h1'.symm
            · exact Fin.ext (by show (x 2).val = j.val; omega)
           rw [hx]
           exact congrArg (fun i => P i (ix3 0 r ⟨j.val, hj⟩)) (Fin.ext (by show _ = hd.val; omega)))
    · first
        | (exfalso; omega)
        | (have hx : x = ix3 0 r ⟨j.val - 128, by omega⟩ := by
            funext k; fin_cases k
            · exact Fin.ext (by show (x 0).val = 0; omega)
            · exact Fin.ext h1'.symm
            · exact Fin.ext (by show (x 2).val = j.val - 128; omega)
           rw [hx]
           exact congrArg (fun i => Q i (ix3 0 r ⟨j.val - 128, by omega⟩)) (Fin.ext (by show _ = hd.val; omega)))

/-- Lanes `128 hd` to `128 hd + 127` of a block of keys or values. -/
def lanes (x : Vec Ideal S2048x1024 .bf16) (hd : Fin 8) : Vec Ideal S2048x128 .bf16 :=
  View.ld x (Rect.unit ![0, 128 * hd.val] ![2048, 128] (by intro k; fin_cases k <;> simp <;> omega))

/-- The keys' scratch, of a block of plain keys and the turned keys. -/
def keys (x : Vec Ideal S2048x1024 .bf16) (kr : Vec Ideal S2048x128 .bf16) : Vec Ideal S8x2048x256 .bf16 :=
  View.canon (fills (fun hd => k0_pay5 (lanes x hd)) fun _ => k0_pay6 kr)

/-- The values' scratch, of a block of values. -/
def vals (x : Vec Ideal S2048x1024 .bf16) : Vec Ideal S8x2048x256 .bf16 :=
  View.canon (fills (fun hd => k0_pay7 (lanes x hd)) fun _ => k0_pay8)

/-- The first point of a head group that is not the first of its batch: it fills the scratch of keys and of values, the
    turned keys being the point before's. -/
theorem tile_group (c : Dev nD) (t : Fin cfg0.N) (h : t.val % 8 = 0) (h0 : t.val % 32 ≠ 0) (hd : Fin 8) (a : Fin 256) (d : Fin 128) :
    (outsAt0 m c t.val t.isLt).1 (ix2 a ⟨128 * hd.val + d.val, by omega⟩)
      = headAt 0 (k0_pay181 (iblk m c 4 t)) (k0_pay182 (iblk m c 5 t)) (iblk m c 0 t)
          (keys (iblk m c 1 t) (outsAt0 m c (t.val - 1) (Nat.lt_of_le_of_lt (Nat.sub_le _ _) t.isLt)).2.2.2)
          (vals (iblk m c 2 t)) hd (ix2 a d)
    ∧ (outsAt0 m c t.val t.isLt).2
      = (keys (iblk m c 1 t) (outsAt0 m c (t.val - 1) (Nat.lt_of_le_of_lt (Nat.sub_le _ _) t.isLt)).2.2.2,
          vals (iblk m c 2 t), (outsAt0 m c (t.val - 1) (Nat.lt_of_le_of_lt (Nat.sub_le _ _) t.isLt)).2.2.2) := by
  rw [outsAt0_I m c t (by omega) (by omega) (by omega) (by omega) (by omega) (by omega) (by omega) (by omega) (by omega) (by omega)]
  refine ⟨?_, Prod.ext (funext fun y => ?_) (Prod.ext (funext fun y => ?_) rfl)⟩
  · dsimp only
    frame_out
    simp only [read_unread_whole, View.readCov_eq_canon']
    generalize (outsAt0 m c (t.val - 1) (Nat.lt_of_le_of_lt (Nat.sub_le _ _) t.isLt)) = before
    generalize (iblk m c 0 t : Vec Ideal S256x2048 .f32) = q
    generalize (iblk m c 1 t : Vec Ideal S2048x1024 .bf16) = x1
    generalize (iblk m c 2 t : Vec Ideal S2048x1024 .bf16) = x2
    generalize (iblk m c 4 t : Vec Ideal S256x128 .f32) = x4
    generalize (iblk m c 5 t : Vec Ideal S256x128 .f32) = x5
    refine canon_heads (headAt _ (k0_pay181 x4) (k0_pay182 x5) q (keys x1 before.2.2.2) (vals x2)) ?_ ?_ ?_ ?_ ?_ ?_ ?_ ?_ hd a d <;> rfl
  · dsimp only
    frame_out
    simp only [read_unread_whole]
    rfl
  · dsimp only
    frame_out
    rfl

/-- The first point of a batch: it fills the scratch of turned keys too. -/
theorem tile_batch (c : Dev nD) (t : Fin cfg0.N) (h : t.val % 32 = 0) (hd : Fin 8) (a : Fin 256) (d : Fin 128) :
    (outsAt0 m c t.val t.isLt).1 (ix2 a ⟨128 * hd.val + d.val, by omega⟩)
      = headAt 0 (k0_pay181 (iblk m c 4 t)) (k0_pay182 (iblk m c 5 t)) (iblk m c 0 t)
          (keys (iblk m c 1 t) (k0_pay177 (iblk m c 3 t) (iblk m c 6 t) (iblk m c 7 t)))
          (vals (iblk m c 2 t)) hd (ix2 a d)
    ∧ (outsAt0 m c t.val t.isLt).2
      = (keys (iblk m c 1 t) (k0_pay177 (iblk m c 3 t) (iblk m c 6 t) (iblk m c 7 t)),
          vals (iblk m c 2 t), k0_pay177 (iblk m c 3 t) (iblk m c 6 t) (iblk m c 7 t)) := by
  rw [outsAt0_A m c t (by omega) (by omega) (by omega) (by omega) (by omega) (by omega) (by omega) (by omega) (by omega) (by omega)]
  refine ⟨?_, Prod.ext (funext fun y => ?_) (Prod.ext (funext fun y => ?_) (funext fun y => ?_))⟩
  · dsimp only
    frame_out
    simp only [View.readCov_eq_canon']
    generalize (k0_pay177 (iblk m c 3 t) (iblk m c 6 t) (iblk m c 7 t) : Vec Ideal S2048x128 .bf16) = kr
    generalize (iblk m c 0 t : Vec Ideal S256x2048 .f32) = q
    generalize (iblk m c 1 t : Vec Ideal S2048x1024 .bf16) = x1
    generalize (iblk m c 2 t : Vec Ideal S2048x1024 .bf16) = x2
    generalize (iblk m c 4 t : Vec Ideal S256x128 .f32) = x4
    generalize (iblk m c 5 t : Vec Ideal S256x128 .f32) = x5
    refine canon_heads (headAt _ (k0_pay181 x4) (k0_pay182 x5) q (keys x1 kr) (vals x2)) ?_ ?_ ?_ ?_ ?_ ?_ ?_ ?_ hd a d <;> rfl
  · dsimp only
    frame_out
    rfl
  · dsimp only
    frame_out
    rfl
  · dsimp only
    frame_out

end Cert.KernelIdeal.Attention
-- ==== Proof.Attention.Blocks.lean ====
/- What each grid point of the attention call holds: its blocks of the host's arrays, and the scratch that keys, values
   and turned keys stay in from the first point of a group to its last. -/
module

public import Idealize.ShloMosaic.Lib.Pointwise
public import Idealize.ShloMosaic.Lib.Pipeline.ValueKit
public import Idealize.ShloMosaic.Lib.Claim
public import proofs.«01_k».proof.Proof.Gen.KernelIdeal.Value
public import proofs.«01_k».proof.Proof.Attention.Host
public import proofs.«01_k».proof.Proof.Attention.Tile

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Rows Cert.Attention

variable (m : (ℓ : Loc nD τ sig) → Buf (Elt Ideal) ℓ)

/-- Which block of its array each window holds at a grid point. -/
theorem idx : ∀ t : Fin cfg0.N, win0_0.index t = ![t.val / 32 * 8 + t.val % 8, t.val / 8 % 4]
    ∧ win0_1.index t = ![t.val / 32, t.val / 8 % 4] ∧ win0_2.index t = ![t.val / 32, 4 + t.val / 8 % 4]
    ∧ win0_3.index t = ![t.val / 32, 12] ∧ win0_4.index t = ![t.val / 32 * 8 + t.val % 8, 0]
    ∧ win0_5.index t = ![t.val / 32 * 8 + t.val % 8, 0] ∧ win0_6.index t = ![t.val / 32, 0] ∧ win0_7.index t = ![t.val / 32, 0]
    ∧ win0_8.index t = ![t.val / 32 * 8 + t.val % 8, t.val / 8 % 4] :=
  (by decide +kernel : ∀ t : Fin grid0.N, _)

theorem lt_N (t : Fin cfg0.N) : t.val < 128 := t.isLt

/-- The sequence of a grid point. -/
def seq (t : Fin cfg0.N) : Fin 4 := ⟨t.val / 32, by have := lt_N t; omega⟩
/-- The place of a tile's row in its sequence. -/
def at_ (t : Fin cfg0.N) (a : Fin 256) : Fin 2048 := ⟨256 * (t.val % 8) + a.val, by omega⟩
/-- The head that a grid point computes `hd`-th. -/
def hdOf (t : Fin cfg0.N) (hd : Fin 8) : Fin 32 := ⟨8 * (t.val / 8 % 4) + hd.val, by omega⟩

section Read

variable (c : Dev nD) (t : Fin cfg0.N)

theorem read_q (a : Fin 256) (j : Fin 2048) : (iblk m c 0 t : Vec Ideal S256x2048 .f32) (ix2 a j)
    = (V m c main_v19 : S8192x8192.Idx → Elt Ideal .f32) (ix2 (rowOf (seq t) (at_ t a)) ⟨2048 * (t.val / 8 % 4) + j.val, by omega⟩) := by
  have := lt_N t
  unfold seq at_
  blk_ext [iblk, idx t] <;> omega

theorem read_k (x : Fin 2048) (j : Fin 1024) : (iblk m c 1 t : Vec Ideal S2048x1024 .bf16) (ix2 x j)
    = (V m c main_v23 : S8192x8192.Idx → Elt Ideal .bf16) (ix2 (rowOf (seq t) x) ⟨1024 * (t.val / 8 % 4) + j.val, by omega⟩) := by
  have := lt_N t
  unfold seq
  blk_ext [iblk, idx t] <;> omega

theorem read_v (x : Fin 2048) (j : Fin 1024) : (iblk m c 2 t : Vec Ideal S2048x1024 .bf16) (ix2 x j)
    = (V m c main_v23 : S8192x8192.Idx → Elt Ideal .bf16) (ix2 (rowOf (seq t) x) ⟨4096 + 1024 * (t.val / 8 % 4) + j.val, by omega⟩) := by
  have := lt_N t
  unfold seq
  blk_ext [iblk, idx t] <;> omega

theorem read_l (x : Fin 2048) (l : Fin 128) : (iblk m c 3 t : Vec Ideal S2048x128 .f32) (ix2 x l)
    = (V m c main_v10 : S8192x1664.Idx → Elt Ideal .f32) (ix2 (rowOf (seq t) x) ⟨1536 + l.val, by omega⟩) := by
  have := lt_N t
  unfold seq
  blk_ext [iblk, idx t] <;> omega

theorem read_cos (a : Fin 256) (l : Fin 128) : (iblk m c 4 t : Vec Ideal S256x128 .f32) (ix2 a l)
    = (V m c main_v33 : S8192x128.Idx → Elt Ideal .f32) (ix2 (rowOf (seq t) (at_ t a)) l) := by
  have := lt_N t
  unfold seq at_
  blk_ext [iblk, idx t] <;> omega

theorem read_sin (a : Fin 256) (l : Fin 128) : (iblk m c 5 t : Vec Ideal S256x128 .f32) (ix2 a l)
    = (V m c main_v37 : S8192x128.Idx → Elt Ideal .f32) (ix2 (rowOf (seq t) (at_ t a)) l) := by
  have := lt_N t
  unfold seq at_
  blk_ext [iblk, idx t] <;> omega

theorem read_kcos (x : Fin 2048) (l : Fin 128) : (iblk m c 6 t : Vec Ideal S2048x128 .f32) (ix2 x l)
    = (V m c main_v33 : S8192x128.Idx → Elt Ideal .f32) (ix2 (rowOf (seq t) x) l) := by
  have := lt_N t
  unfold seq
  blk_ext [iblk, idx t] <;> omega

theorem read_ksin (x : Fin 2048) (l : Fin 128) : (iblk m c 7 t : Vec Ideal S2048x128 .f32) (ix2 x l)
    = (V m c main_v37 : S8192x128.Idx → Elt Ideal .f32) (ix2 (rowOf (seq t) x) l) := by
  have := lt_N t
  unfold seq
  blk_ext [iblk, idx t] <;> omega

end Read

/-- The turned keys of a grid point's sequence. -/
def turnedKeys (c : Dev nD) (t : Fin cfg0.N) : Vec Ideal S2048x128 .bf16 := k0_pay177 (iblk m c 3 t) (iblk m c 6 t) (iblk m c 7 t)

section Same

variable (c : Dev nD) (t t' : Fin cfg0.N) (h : t.val / 32 = t'.val / 32)
include h

theorem same_turned : turnedKeys m c t = turnedKeys m c t' := by
  have hs : seq t = seq t' := Fin.ext h
  have e3 : (iblk m c 3 t : Vec Ideal S2048x128 .f32) = iblk m c 3 t' := by
    funext y
    obtain ⟨x, l, rfl⟩ : ∃ (x : Fin 2048) (l : Fin 128), y = ix2 x l := ⟨y 0, y 1, by blk_ext⟩
    rw [read_l, read_l, hs]
  have e6 : (iblk m c 6 t : Vec Ideal S2048x128 .f32) = iblk m c 6 t' := by
    funext y
    obtain ⟨x, l, rfl⟩ : ∃ (x : Fin 2048) (l : Fin 128), y = ix2 x l := ⟨y 0, y 1, by blk_ext⟩
    rw [read_kcos, read_kcos, hs]
  have e7 : (iblk m c 7 t : Vec Ideal S2048x128 .f32) = iblk m c 7 t' := by
    funext y
    obtain ⟨x, l, rfl⟩ : ∃ (x : Fin 2048) (l : Fin 128), y = ix2 x l := ⟨y 0, y 1, by blk_ext⟩
    rw [read_ksin, read_ksin, hs]
  unfold turnedKeys
  rw [e3, e6, e7]

variable (hg : t.val / 8 % 4 = t'.val / 8 % 4)
include hg

theorem same_k : (iblk m c 1 t : Vec Ideal S2048x1024 .bf16) = iblk m c 1 t' := by
  have hs : seq t = seq t' := Fin.ext h
  funext y
  obtain ⟨x, j, rfl⟩ : ∃ (x : Fin 2048) (j : Fin 1024), y = ix2 x j := ⟨y 0, y 1, by blk_ext⟩
  rw [read_k, read_k, hs]
  simp only [hg]

theorem same_v : (iblk m c 2 t : Vec Ideal S2048x1024 .bf16) = iblk m c 2 t' := by
  have hs : seq t = seq t' := Fin.ext h
  funext y
  obtain ⟨x, j, rfl⟩ : ∃ (x : Fin 2048) (j : Fin 1024), y = ix2 x j := ⟨y 0, y 1, by blk_ext⟩
  rw [read_v, read_v, hs]
  simp only [hg]

end Same

/-- After every grid point the scratch holds the keys and values of its heads and the turned keys of its sequence. -/
theorem scratch (c : Dev nD) : ∀ (n : ℕ) (hn : n < cfg0.N), (outsAt0 m c n hn).2
    = (keys (iblk m c 1 ⟨n, hn⟩) (turnedKeys m c ⟨n, hn⟩), vals (iblk m c 2 ⟨n, hn⟩), turnedKeys m c ⟨n, hn⟩) := by
  intro n
  induction n with
  | zero => exact fun hn => (tile_batch m c ⟨0, hn⟩ rfl 0 0 0).2
  | succ n ih =>
    intro hn
    have hp : (outsAt0 m c (n + 1 - 1) (Nat.lt_of_le_of_lt (Nat.sub_le _ _) hn)).2 = _ := ih (Nat.lt_of_succ_lt hn)
    by_cases h32 : (n + 1) % 32 = 0
    · exact (tile_batch m c ⟨n + 1, hn⟩ h32 0 0 0).2
    have hs := same_turned m c ⟨n, Nat.lt_of_succ_lt hn⟩ ⟨n + 1, hn⟩ (by dsimp only; omega)
    by_cases h8 : (n + 1) % 8 = 0
    · refine (tile_group m c ⟨n + 1, hn⟩ h8 h32 0 0 0).2.trans ?_
      dsimp only
      rw [hp, hs]
    · refine (tile_later m c ⟨n + 1, hn⟩ ⟨(n + 1) % 8, by omega⟩ rfl h8 0 0 0).2.trans ?_
      rw [hp, hs, same_k m c ⟨n, Nat.lt_of_succ_lt hn⟩ ⟨n + 1, hn⟩ (by dsimp only; omega) (by dsimp only; omega),
        same_v m c ⟨n, Nat.lt_of_succ_lt hn⟩ ⟨n + 1, hn⟩ (by dsimp only; omega) (by dsimp only; omega)]

/-- What a grid point computes. -/
theorem tile (c : Dev nD) (t : Fin cfg0.N) (hd : Fin 8) (a : Fin 256) (d : Fin 128) :
    (outsAt0 m c t.val t.isLt).1 (ix2 a ⟨128 * hd.val + d.val, by omega⟩)
      = headAt ⟨t.val % 8, by omega⟩ (k0_pay181 (iblk m c 4 t)) (k0_pay182 (iblk m c 5 t)) (iblk m c 0 t)
          (keys (iblk m c 1 t) (turnedKeys m c t)) (vals (iblk m c 2 t)) hd (ix2 a d) := by
  by_cases h32 : t.val % 32 = 0
  · refine (tile_batch m c t h32 hd a d).1.trans ?_
    rw [show (⟨t.val % 8, by omega⟩ : Fin 8) = 0 from Fin.ext (by show t.val % 8 = 0; omega)]
    rfl
  have hn : t.val - 1 < cfg0.N := Nat.lt_of_le_of_lt (Nat.sub_le _ _) t.isLt
  have hp := scratch m c (t.val - 1) hn
  have hs := same_turned m c ⟨t.val - 1, hn⟩ t (by dsimp only; omega)
  by_cases h8 : t.val % 8 = 0
  · refine (tile_group m c t h8 h32 hd a d).1.trans ?_
    rw [show (⟨t.val % 8, by omega⟩ : Fin 8) = 0 from Fin.ext h8, hp, hs]
  · refine (tile_later m c t ⟨t.val % 8, by omega⟩ rfl h8 hd a d).1.trans ?_
    rw [hp, hs, same_k m c ⟨t.val - 1, hn⟩ t (by dsimp only; omega) (by dsimp only; omega),
      same_v m c ⟨t.val - 1, hn⟩ t (by dsimp only; omega) (by dsimp only; omega)]

end Cert.KernelIdeal.Attention

end
-- ==== Proof.Attention.Score.lean ====
/- The kernel's score of a query against a key is the layer's, times the scale the queries carry: the turned lanes lie
   in 128 places of which half hold nothing, and a pair of them is 64 places apart. -/
module

public import Idealize.ShloMosaic.Lib.Pointwise
public import Idealize.ShloMosaic.Lib.Pipeline.ValueKit
public import Idealize.ShloMosaic.Lib.Claim
public import proofs.«01_k».proof.Proof.Gen.KernelIdeal.Value
public import proofs.«01_k».proof.Proof.Scalars
public import proofs.«01_k».proof.Proof.Attention.Blocks

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Rows Cert.Attention Cert.Scalars

/-! ### Sixty-four lanes in 128 places -/

theorem lane_injective : Function.Injective lane := by
  intro e e' h
  have := congrArg Fin.val h
  simp only [lane] at this
  exact Fin.ext (by omega)

theorem off_lanes {l : Fin 128} (h : l ∉ Set.range lane) : ¬ l.val % 64 < 32 := fun hl =>
  h ⟨⟨32 * (l.val / 64) + l.val % 64, by omega⟩, Fin.ext (by simp only [lane]; omega)⟩

/-- `X` holds the 64 lanes `x`, and nothing between them. -/
structure Spread (X : Fin 128 → EReal) (x : Fin 64 → EReal) : Prop where
  on : ∀ e, X (lane e) = x e
  off : ∀ l : Fin 128, ¬ l.val % 64 < 32 → X l = 0

/-- `C` and `S` hold the cosines and the signed sines of the angles, in the places of the lanes. -/
structure Turn (C S : Fin 128 → EReal) (θ : Fin 32 → EReal) : Prop where
  cos : ∀ e : Fin 64, C (lane e) = Ideal.cos (θ ⟨e.val % 32, by omega⟩)
  sin : ∀ e : Fin 64, S (lane e) = Ideal.sin (θ ⟨e.val % 32, by omega⟩) * if e.val < 32 then -1 else 1

/-- Each place times its cosine, and the place 64 away times its signed sine. -/
def swing (X C S : Fin 128 → EReal) (l : Fin 128) : EReal := X l * C l + X ⟨(l.val + 128 - 64) % 128, by omega⟩ * S l

/-- That is the lanes turned, spread. -/
theorem swing_spread {X C S : Fin 128 → EReal} {x : Fin 64 → EReal} {θ : Fin 32 → EReal} (hX : Spread X x) (hT : Turn C S θ) :
    Spread (swing X C S) (turned x θ) where
  on e := by
    unfold swing turned
    rw [hX.on, hT.cos, hT.sin]
    by_cases h : e.val < 32
    · rw [dif_pos h, if_pos h, show (⟨((lane e).val + 128 - 64) % 128, by omega⟩ : Fin 128) = lane ⟨e.val + 32, by omega⟩ from
        Fin.ext (by simp only [lane]; omega), hX.on]
      simp only [Nat.mod_eq_of_lt h, mul_neg, mul_one, sub_eq_add_neg]
    · rw [dif_neg h, if_neg h, show (⟨((lane e).val + 128 - 64) % 128, by omega⟩ : Fin 128) = lane ⟨e.val - 32, by omega⟩ from
        Fin.ext (by simp only [lane]; omega), hX.on]
      simp only [show e.val % 32 = e.val - 32 by omega, mul_one]
  off l hl := by
    unfold swing
    rw [hX.off l hl, hX.off _ (by dsimp only; omega), zero_mul, zero_mul, add_zero]

/-- The score of a key: the plain product and the turned product, times the scale. -/
theorem score_eq {L : ℕ} {C S X N : Fin 128 → EReal} {k : Fin L → Fin 256 → EReal} {x : Fin L} {n kn : Fin 128 → EReal}
    {q kr : Fin 64 → EReal} {θ : Fin 32 → EReal} {r : ℝ} (hr : 0 ≤ r) (hq : qscale = (r : EReal))
    (hN : ∀ l, N l = n l) (hX : Spread X q) (hT : Turn C S θ)
    (hk : ∀ l : Fin 128, k x ⟨l.val, by omega⟩ = kn l) (hK : Spread (fun l => k x ⟨128 + l.val, by omega⟩) kr) :
    score C S X N k x = ((∑ l, n l * kn l) + ∑ e, turned q θ e * kr e) * (r : EReal) := by
  have ht := swing_spread hX hT
  rw [EReal.right_distrib_of_nonneg_of_ne_top (by exact_mod_cast hr) (EReal.coe_ne_top r), sum_mul_coe _ _ hr, sum_mul_coe _ _ hr]
  unfold score
  rw [hq]
  congr 1
  · exact Finset.sum_congr rfl fun l _ => by rw [hN, hk, mul_right_comm]
  · refine (Fintype.sum_of_injective lane lane_injective _ _ (fun l hl => ?_) fun e => ?_).symm
    · show swing X C S l * _ * _ = 0
      rw [ht.off l (off_lanes hl), zero_mul, zero_mul]
    · show _ = swing X C S (lane e) * _ * _
      rw [ht.on, hK.on e, mul_right_comm]

/-! ### The tile's rows -/

variable (m : (ℓ : Loc nD τ sig) → Buf (Elt Ideal) ℓ) (c : Dev nD) (t : Fin cfg0.N)

/-- The tables at a row hold its angles. -/
theorem turn_row (b : Fin 4) (s : Fin 2048) :
    Turn (fun l => (V m c main_v33 : S8192x128.Idx → Elt Ideal .f32) (ix2 (rowOf b s) l))
      (fun l => (V m c main_v37 : S8192x128.Idx → Elt Ideal .f32) (ix2 (rowOf b s) l)) (angle (argP m c) b s) where
  cos e := by rw [V_cos, angle_lane]
  sin e := by rw [V_sin, angle_lane, sign_lane]

theorem turn_tile (a : Fin 256) :
    Turn (fun l => (k0_pay181 (iblk m c 4 t) : FVec Ideal S256x128 .f32) (ix2 a l))
      (fun l => (k0_pay182 (iblk m c 5 t) : FVec Ideal S256x128 .f32) (ix2 a l)) (angle (argP m c) (seq t) (at_ t a)) := by
  have h := turn_row m c (seq t) (at_ t a)
  rw [← funext fun l => read_cos m c t a l, ← funext fun l => read_sin m c t a l] at h
  generalize (iblk m c 4 t : Vec Ideal S256x128 .f32) = x at *
  generalize (iblk m c 5 t : Vec Ideal S256x128 .f32) = y at *
  pointwise [k0_pay181, k0_pay182]
  exact h

theorem query_plain (hd : Fin 8) (a : Fin 256) (l : Fin 128) :
    (iblk m c 0 t : Vec Ideal S256x2048 .f32) (ix2 a ⟨256 * hd.val + l.val, by omega⟩)
      = qn (argQ m c) (seq t) (at_ t a) (hdOf t hd) l := by
  rw [read_q, ← q_nope]
  exact congrArg _ (congrArg _ (Fin.ext (by simp only [hdOf]; omega)))

theorem query_spread (hd : Fin 8) (a : Fin 256) :
    Spread (fun l => (iblk m c 0 t : Vec Ideal S256x2048 .f32) (ix2 a ⟨256 * hd.val + 128 + l.val, by omega⟩))
      (qr (argQ m c) (seq t) (at_ t a) (hdOf t hd)) where
  on e := by
    rw [read_q, ← q_lane]
    exact congrArg _ (congrArg _ (Fin.ext (by simp only [hdOf]; omega)))
  off l hl := by
    rw [read_q, ← q_off m c (seq t) (at_ t a) (hdOf t hd) l hl]
    exact congrArg _ (congrArg _ (Fin.ext (by simp only [hdOf]; omega)))

/-- The turned keys at a row. -/
theorem turned_spread (x : Fin 2048) :
    Spread (fun l => turnedKeys m c t (ix2 x l)) (turned (kr (argL m c) (seq t) x) (angle (argP m c) (seq t) x)) := by
  have hL : Spread (fun l => (iblk m c 3 t : Vec Ideal S2048x128 .f32) (ix2 x l)) (kr (argL m c) (seq t) x) :=
    { on := fun e => by rw [read_l, l_lane]
      off := fun l hl => by rw [read_l, l_off m c (seq t) x l hl] }
  have h := turn_row m c (seq t) x
  rw [← funext fun l => read_kcos m c t x l, ← funext fun l => read_ksin m c t x l] at h
  refine Eq.mp (congrArg (Spread · _) (funext fun l => ?_)) (swing_spread hL h)
  unfold turnedKeys swing
  generalize (iblk m c 3 t : Vec Ideal S2048x128 .f32) = y
  generalize (iblk m c 6 t : Vec Ideal S2048x128 .f32) = y'
  generalize (iblk m c 7 t : Vec Ideal S2048x128 .f32) = y''
  pointwise [k0_pay177]

theorem key_plain (hd : Fin 8) (x : Fin 2048) (l : Fin 128) :
    (keys (iblk m c 1 t) (turnedKeys m c t) : Vec Ideal S8x2048x256 .bf16) (ix3 hd x ⟨l.val, by omega⟩)
      = kn (argKV m c) (seq t) x (hdOf t hd) l := by
  have h : (iblk m c 1 t : Vec Ideal S2048x1024 .bf16) (ix2 x ⟨128 * hd.val + l.val, by omega⟩)
      = kn (argKV m c) (seq t) x (hdOf t hd) l := by
    rw [read_k]
    unfold kn
    rw [← row_at (argKV m c), ← V_k]
    exact congrArg _ (congrArg _ (Fin.ext (by simp only [hdOf]; omega)))
  rw [← h]
  generalize (iblk m c 1 t : Vec Ideal S2048x1024 .bf16) = y
  generalize turnedKeys m c t = y'
  unfold keys
  rw [canon_fills, dif_pos l.isLt]
  pointwise [k0_pay5]
  exact congrArg y (by funext k; fin_cases k <;> exact Fin.ext (by simp))

theorem key_spread (hd : Fin 8) (x : Fin 2048) :
    Spread (fun l => (keys (iblk m c 1 t) (turnedKeys m c t) : Vec Ideal S8x2048x256 .bf16) (ix3 hd x ⟨128 + l.val, by omega⟩))
      (turned (kr (argL m c) (seq t) x) (angle (argP m c) (seq t) x)) := by
  refine Eq.mp (congrArg (Spread · _) (funext fun l => ?_)) (turned_spread m c t x)
  generalize (iblk m c 1 t : Vec Ideal S2048x1024 .bf16) = y
  generalize turnedKeys m c t = y'
  unfold keys
  rw [canon_fills, dif_neg (by dsimp only; omega)]
  pointwise [k0_pay6]

theorem val_lane (hd : Fin 8) (x : Fin 2048) (d : Fin 128) :
    (vals (iblk m c 2 t) : Vec Ideal S8x2048x256 .bf16) (ix3 hd x ⟨d.val, by omega⟩) = vl (argKV m c) (seq t) x (hdOf t hd) d := by
  have h : (iblk m c 2 t : Vec Ideal S2048x1024 .bf16) (ix2 x ⟨128 * hd.val + d.val, by omega⟩)
      = vl (argKV m c) (seq t) x (hdOf t hd) d := by
    rw [read_v]
    unfold vl
    rw [← row_at (argKV m c), ← V_v]
    exact congrArg _ (congrArg _ (Fin.ext (by simp only [hdOf]; omega)))
  rw [← h]
  generalize (iblk m c 2 t : Vec Ideal S2048x1024 .bf16) = y
  unfold vals
  rw [canon_fills, dif_pos d.isLt]
  pointwise [k0_pay7]
  exact congrArg y (by funext k; fin_cases k <;> exact Fin.ext (by simp))

theorem val_one (hd : Fin 8) (x : Fin 2048) :
    (vals (iblk m c 2 t) : Vec Ideal S8x2048x256 .bf16) (ix3 hd x ⟨128, by omega⟩) = (1 : EReal) := by
  generalize (iblk m c 2 t : Vec Ideal S2048x1024 .bf16) = y
  unfold vals
  rw [canon_fills, dif_neg (by dsimp only; omega)]
  pointwise [k0_pay8]

end Cert.KernelIdeal.Attention

end
-- ==== Proof.Attention.Finite.lean ====
/- The precondition read at an index: the queries, and the keys' lanes without and with a position, are real, and so is
   every score. -/
module

public import Idealize.ShloMosaic.Lib.Pointwise
public import Idealize.ShloMosaic.Lib.Claim
public import proofs.«01_k».proof.Defs
public import proofs.«01_k».proof.Proof.Gen.Pre_finite
public import proofs.«01_k».proof.Proof.Attention.Host

@[expose] public section

set_option maxRecDepth 16384

noncomputable section

namespace Cert.KernelIdeal.Attention

open Cert.KernelIdeal Cert.KernelIdeal.Gen Idealize.ShloMosaic Idealize.ShloMosaic.TcCoe Idealize.SL.Sem
open Cert.Rows Cert.Attention

attribute [local instance] Cert.Pre_finite.Gen.facts

/-- A value whose magnitude is less than the infinity is real. -/
theorem isReal_of_abs_lt {x : EReal}
    (h : BitVec.ofBool (decide ((FloatOps.absf (F := Ideal) (φ := .f32) x : EReal) < Ideal.ofBits .f32 0x7F800000#32)) = 1#1) : IsReal x := by
  have ht : Ideal.ofBits .f32 0x7F800000#32 = (⊤ : EReal) := by simp [Ideal.ofBits, Ideal.ieee]
  rw [ht] at h
  by_cases hx : (FloatOps.absf (F := Ideal) (φ := .f32) x : EReal) < ⊤
  · induction x with
    | coe r => exact .coe r
    | bot => exact absurd hx (by show ¬ max (⊥ : EReal) (-⊥) < ⊤; simp)
    | top => exact absurd hx (by show ¬ max (⊤ : EReal) (-⊤) < ⊤; simp)
  · rw [decide_eq_false hx] at h
    exact absurd h (by decide)

section Real

variable {m : (ℓ : Loc nD τ sig) → Buf (Elt Ideal) ℓ} (hf : Cert.Pre_KernelIdeal_finite m) (c : Dev nD)
include hf

theorem real_q (i : S4x2048x6144.Idx) : IsReal (argQ m c i) := by
  have h := congrFun (hf c).1 i
  unfold argQ
  generalize (m ((c.tc : Thread nD τ).loc main_arg0)) = x at *
  unfold Cert.Pre_finite.fn at h
  pointwise at h
  exact isReal_of_abs_lt h

theorem real_kn (b : Fin 4) (s : Fin 2048) (h : Fin 32) (l : Fin 128) : IsReal (kn (argKV m c) b s h l) := by
  have h' := congrFun (hf c).2.1 (ix4 b s h l)
  unfold argKV kn
  generalize (m ((c.tc : Thread nD τ).loc main_arg1)) = x at *
  unfold Cert.Pre_finite.fn at h'
  pointwise at h'
  rw [show (⟨256 * h.val + l.val, by omega⟩ : Fin 8192) = ⟨h.val * 256 + l.val, by omega⟩ from Fin.ext (by dsimp only; omega)]
  exact isReal_of_abs_lt h'

theorem real_kr (b : Fin 4) (s : Fin 2048) (e : Fin 64) : IsReal (kr (argL m c) b s e) := by
  have h' := congrFun (hf c).2.2 (ix3 b s e)
  unfold argL kr
  generalize (m ((c.tc : Thread nD τ).loc main_arg2)) = x at *
  unfold Cert.Pre_finite.fn at h'
  pointwise at h'
  exact isReal_of_abs_lt h'

end Real

/-- An angle is real, a position being an integer. -/
theorem real_angle (P : S4x2048.Idx → BitVec 32) (b : Fin 4) (s : Fin 2048) (j : Fin 32) : IsReal (angle P b s j) := by
  have hb : IsReal (Ideal.ofBits .f32 0x461C4000#32) := by
    refine ⟨10000, ?_⟩
    simp [Ideal.ofBits, Ideal.ieee, -EReal.coe_mul]
    norm_cast
    norm_num
  obtain ⟨r, hr⟩ := hb
  unfold angle freq
  rw [hr, Ideal.pow_coe_coe]
  exact IsReal.mul (.coe _) (.coe _)

theorem real_turned {x : Fin 64 → EReal} {θ : Fin 32 → EReal} (hx : ∀ e, IsReal (x e)) (hθ : ∀ j, IsReal (θ j)) (e : Fin 64) :
    IsReal (turned x θ e) := by
  have hc : ∀ j, IsReal (Ideal.cos (θ j)) := fun j => by
    obtain ⟨r, hr⟩ := hθ j
    rw [hr, Ideal.cos_coe]
    exact .coe _
  have hs : ∀ j, IsReal (Ideal.sin (θ j)) := fun j => by
    obtain ⟨r, hr⟩ := hθ j
    rw [hr, Ideal.sin_coe]
    exact .coe _
  unfold turned
  split_ifs with h
  · rw [sub_eq_add_neg]
    exact ((hx _).mul (hc _)).add ((hx _).mul (hs _)).neg
  · exact ((hx _).mul (hc _)).add ((hx _).mul (hs _))

/-- Every score is real. -/
theorem real_logit {m : (ℓ : Loc nD τ sig) → Buf (Elt Ideal) ℓ} (hf : Cert.Pre_KernelIdeal_finite m) (c : Dev nD) (b : Fin 4)
    (h : Fin 32) (a k : Fin 2048) : IsReal (logit (argQ m c) (argKV m c) (argL m c) (argP m c) b h a k) :=
  (IsReal.sum fun l _ => (real_q hf c _).mul (real_kn hf c b k h l)).add
    (IsReal.sum fun e _ => (real_turned (fun _ => real_q hf c _) (real_angle _ b a) e).mul
      (real_turned (fun _ => real_kr hf c b k _) (real_angle _ b k) e))

end Cert.KernelIdeal.Attention

end
-- ==== Proof.Attention.Join.lean ====
/- A tile's head is the layer's attention: its scores are the layer's with the scale, hidden where the layer hides them,
   and the two softmaxes give one weighted sum of the values. -/
module

public import Idealize.ShloMosaic.Lib.Pointwise
public import Idealize.ShloMosaic.Lib.Pipeline.ValueKit
public import Idealize.ShloMosaic.Lib.Claim
public import proofs.«01_k».proof.Proof.Attention.Score
public import proofs.«01_k».proof.Proof.Attention.Finite

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Rows Cert.Attention

attribute [local instance] Cert.Pre_finite.Gen.facts

/-- The scale of the queries is the layer's in powers of two. -/
theorem qscale_eq : qscale = (((Real.sqrt 192)⁻¹ * (Real.log 2)⁻¹ : ℝ) : EReal) :=
  IdealRules.named_const.ideal_named_scalar _ _ _ _ rfl

theorem hidden_eq : hidden = ⊥ := IdealRules.named_const.ideal_named_scalar _ _ _ _ rfl

theorem shift_word : ∀ x : Fin 256, IntOp.shrsi ArithUnit.vector (BitVec.ofNat 32 x.val) 6#32 = BitVec.ofNat 32 (x.val / 64) := by
  decide +kernel

theorem word_le : ∀ x y : Fin 4, IntOp.cmpi CmpIPredicate.sle (BitVec.ofNat 32 x.val) (BitVec.ofNat 32 y.val)
    = BitVec.ofBool (decide (x.val ≤ y.val)) := by
  decide +kernel

/-- The mask's bit at a row and a key of the tile. -/
theorem bit_eq (a x : Fin 256) : (k0_pay183 : IVec S256x256 1) (ix2 a x) = BitVec.ofBool (decide (x.val / 64 ≤ a.val / 64)) := by
  pointwise [k0_pay183]
  rw [shift_word, shift_word]
  exact word_le ⟨x.val / 64, by omega⟩ ⟨a.val / 64, by omega⟩

variable {m : (ℓ : Loc nD τ sig) → Buf (Elt Ideal) ℓ} (c : Dev nD) (t : Fin cfg0.N)

/-- The scores of a row of the tile. -/
theorem scores_eq (hd : Fin 8) (a : Fin 256) (x : Fin (256 * (t.val % 8 + 1))) :
    masked ⟨t.val % 8, by omega⟩ (fun x => (k0_pay183 : IVec S256x256 1) (ix2 a x))
        (score (fun l => (k0_pay181 (iblk m c 4 t) : FVec Ideal S256x128 .f32) (ix2 a l))
          (fun l => (k0_pay182 (iblk m c 5 t) : FVec Ideal S256x128 .f32) (ix2 a l))
          (fun l => (iblk m c 0 t : Vec Ideal S256x2048 .f32) (ix2 a ⟨256 * hd.val + 128 + l.val, by omega⟩))
          (fun l => (iblk m c 0 t : Vec Ideal S256x2048 .f32) (ix2 a ⟨256 * hd.val + l.val, by omega⟩))
          fun x j => (keys (iblk m c 1 t) (turnedKeys m c t) : Vec Ideal S8x2048x256 .bf16) (ix3 hd ⟨x.val, by omega⟩ j)) x
      = if Sees (at_ t a) ⟨x.val, by omega⟩ then
          logit (argQ m c) (argKV m c) (argL m c) (argP m c) (seq t) (hdOf t hd) (at_ t a) ⟨x.val, by omega⟩
            * (((Real.sqrt 192)⁻¹ * (Real.log 2)⁻¹ : ℝ) : EReal)
        else ⊥ := by
  have hx := x.isLt
  have hs := score_eq (L := 256 * (t.val % 8 + 1))
    (k := fun x j => (keys (iblk m c 1 t) (turnedKeys m c t) : Vec Ideal S8x2048x256 .bf16) (ix3 hd ⟨x.val, by omega⟩ j)) (x := x)
    (mul_nonneg (inv_nonneg.2 (Real.sqrt_nonneg 192)) (inv_nonneg.2 (Real.log_nonneg one_le_two))) qscale_eq
    (query_plain m c t hd a) (query_spread m c t hd a) (turn_tile m c t a) (key_plain m c t hd ⟨x.val, by omega⟩)
    (key_spread m c t hd ⟨x.val, by omega⟩)
  unfold masked
  by_cases h : x.val < 256 * (t.val % 8)
  · rw [dif_pos h, if_pos (by unfold Sees at_; dsimp only; omega)]
    exact hs
  · rw [dif_neg h]
    dsimp only
    rw [bit_eq]
    by_cases hv : Sees (at_ t a) ⟨x.val, by omega⟩
    · rw [if_pos hv, decide_eq_true (by unfold Sees at_ at hv; dsimp only at *; omega)]
      exact hs
    · rw [if_neg hv, decide_eq_false (by unfold Sees at_ at hv; dsimp only at *; omega)]
      exact hidden_eq

/-- A grid point's head is the layer's attention. -/
theorem tile_eq (hf : Cert.Pre_KernelIdeal_finite m) (hd : Fin 8) (a : Fin 256) (d : Fin 128) :
    (outsAt0 m c t.val t.isLt).1 (ix2 a ⟨128 * hd.val + d.val, by omega⟩)
      = attend (argQ m c) (argKV m c) (argL m c) (argP m c) (seq t) (hdOf t hd) (at_ t a) d := by
  refine (tile m c t hd a d).trans ((headAt_apply _ _ _ _ _ _ hd a d).trans ((mean_congr (scores_eq c t hd a) _ d).trans ?_))
  have hv : ∀ x : Fin (256 * (t.val % 8 + 1)), (vals (iblk m c 2 t) : Vec Ideal S8x2048x256 .bf16) (ix3 hd ⟨x.val, by omega⟩ ⟨d.val, by omega⟩)
      = vl (argKV m c) (seq t) ⟨x.val, by omega⟩ (hdOf t hd) d := fun x => val_lane m c t hd ⟨x.val, by omega⟩ d
  have h1 : ∀ x : Fin (256 * (t.val % 8 + 1)), (vals (iblk m c 2 t) : Vec Ideal S8x2048x256 .bf16) (ix3 hd ⟨x.val, by omega⟩ ⟨128, by omega⟩)
      = (1 : EReal) := fun x => val_one m c t hd ⟨x.val, by omega⟩
  have hbot : Ideal.ofBits FTy.f32 0xFF800000#32 = (⊥ : EReal) := by simp [Ideal.ofBits, Ideal.ieee]
  unfold mean
  simp only [hv, h1, mul_one, hbot]
  exact softmax_row (by omega) (Sees (at_ t a)) (logit (argQ m c) (argKV m c) (argL m c) (argP m c) (seq t) (hdOf t hd) (at_ t a))
    (fun k => vl (argKV m c) (seq t) k (hdOf t hd) d) (fun k _ => real_logit hf c _ _ _ k)
    (fun k hk => by unfold Sees at_ at hk; dsimp only at hk; omega) (k₀ := at_ t a) (le_refl _)
    (inv_pos.2 (Real.sqrt_pos.2 (by norm_num)))

end Cert.KernelIdeal.Attention

end
-- ==== Proof.Attention.Reference.lean ====
/- The attention's reference at an index. -/
module

public import proofs.«01_k».proof.Proof.Gen.ReferenceIdeal.Read
public import proofs.«01_k».proof.Proof.Attention.Spec
public import proofs.«01_k».proof.Proof.Rows
public import proofs.«01_k».proof.Proof.Scalars
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Attention
open Cert.ReferenceIdeal Cert.ReferenceIdeal.Read Cert.Rows Cert.Attention Idealize.ShloMosaic

variable (Q : S4x2048x6144.Idx → Elt Ideal .f32) (KV : S4x2048x8192.Idx → Elt Ideal .f32) (L : S4x2048x1600.Idx → Elt Ideal .f32)
  (P : S4x2048.Idx → Elt Ideal .i32)

/-- The frequencies' exponents, as the reference computes them. -/
theorem freq_ref (j : Fin 32) : Ideal.div (-FloatOps.sitofp (F := Ideal) FTy.f32 (IntOp.addi (0#32) (IntOp.muli (2#32) (BitVec.ofNat 32 j.val))))
    (Ideal.ofBits FTy.f32 0x42800000#32) = freq j := by
  have h64 : Ideal.ofBits .f32 0x42800000#32 = ((64 : ℝ) : EReal) := by
    simp [Ideal.ofBits, Ideal.ieee, -EReal.coe_mul]; norm_num
  have hi : ∀ j : Fin 32, (IntOp.addi (0#32) (IntOp.muli (2#32) (BitVec.ofNat 32 j.val))).toInt = 2 * (j.val : ℤ) := by decide
  have hs : FloatOps.sitofp (F := Ideal) FTy.f32 (IntOp.addi (0#32) (IntOp.muli (2#32) (BitVec.ofNat 32 j.val))) = ((2 * (j.val : ℝ) : ℝ) : EReal) := by
    show (((IntOp.addi (0#32) (IntOp.muli (2#32) (BitVec.ofNat 32 j.val))).toInt : ℝ) : EReal) = _
    rw [hi]; push_cast; rfl
  rw [h64, hs, Ideal.div_coe (by norm_num), freq, ← EReal.coe_neg, ← EReal.coe_mul]
  congr 1
  ring

/-- The angles. -/
theorem ref_angle (b : Fin 4) (s : Fin 2048) (j : Fin 32) : val_main_v20 (F := Ideal) P (ix3 b s j) = angle P b s j := by
  unfold angle
  rw [← freq_ref]
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_c_0, val_main_cst, val_main_cst_1]

/-- The angles, computed again for the keys. -/
theorem ref_angle' (b : Fin 4) (s : Fin 2048) (j : Fin 32) : val_main_v53 (F := Ideal) P (ix3 b s j) = angle P b s j := by
  rw [← ref_angle]
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_c_0, val_main_cst, val_main_cst_1, val_main_v53, val_main_v52, val_main_v51, val_main_v50, val_main_v49, val_main_v48, val_main_v47, val_main_v46, val_main_v45, val_main_v44, val_main_v43, val_main_v42, val_main_v41, val_main_v40, val_main_v39, val_main_v38, val_main_v37, val_main_c_2, val_main_c_3, val_main_cst_4, val_main_cst_5]

/-- The queries turned. -/
theorem ref_turned_q (b : Fin 4) (s : Fin 2048) (h : Fin 32) (e : Fin 64) : val_main_v36 (F := Ideal) Q P (ix4 b s h e) = turned (qr Q b s h) (angle P b s) e := by
  unfold turned qr
  simp only [← ref_angle]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v3, val_main_v2, val_main_v1]
  refine dite_congr rfl (fun _ => ?_) fun _ => ?_ <;> congr 2 <;> congr 1 <;> blk_ext <;> omega

/-- The keys turned. -/
theorem ref_turned_k (b : Fin 4) (s : Fin 2048) (e : Fin 64) : val_main_v64 (F := Ideal) L P (ix3 b s e) = turned (kr L b s) (angle P b s) e := by
  unfold turned kr
  simp only [← ref_angle']
  pointwise [val_main_v64, val_main_v63, val_main_v62, val_main_v61, val_main_v60, val_main_v59, val_main_v58, val_main_v57, val_main_v56, val_main_v55, val_main_v54, val_main_v0]
  refine dite_congr rfl (fun _ => ?_) fun _ => ?_ <;> congr 2 <;> congr 1 <;> blk_ext <;> omega

/-- The scaled scores. -/
theorem ref_score (b : Fin 4) (h : Fin 32) (a k : Fin 2048) : val_main_v75 (F := Ideal) Q KV L P (ix4 b h a k)
    = logit Q KV L P b h a k * (((Real.sqrt 192)⁻¹ : ℝ) : EReal) := by
  have hc : Ideal.div (1 : EReal) (Ideal.sqrt (Ideal.ofBits FTy.f32 0x43400000#32)) = (((Real.sqrt 192)⁻¹ : ℝ) : EReal) := by
    have h192 : Ideal.ofBits .f32 0x43400000#32 = ((192 : ℝ) : EReal) := by
      simp [Ideal.ofBits, Ideal.ieee, -EReal.coe_mul]; norm_num
    rw [h192, Ideal.sqrt_coe, if_neg (by norm_num), Ideal.div_coe (by positivity), one_mul, one_div]
  rw [← hc]
  unfold logit
  simp only [← ref_turned_q, ← ref_turned_k]
  unfold qn kn
  pointwise [val_main_v75, val_main_v74, val_main_v73, val_main_v72, val_main_v71, val_main_v70, val_main_v69, val_main_v68, val_main_v67, val_main_v66, val_main_v65, val_main_v2, val_main_v1, val_main_cst_6, val_main_cst_7]
  refine congrArg (· * _) (congrArg₂ (· + ·) (Finset.sum_congr rfl fun x _ => ?_) (Finset.sum_congr rfl fun x _ => mul_comm _ _))
  congr 2 <;> blk_ext <;> omega

/-- A row's chunk of 64. -/
theorem ref_chunk : ∀ k : Fin 2048, val_main_v77 (F := Ideal) (ix1 k) = BitVec.ofNat 32 (k.val / 64) := by
  intro k
  pointwise [val_main_v77, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_v76, val_main_c_8]
  revert k
  decide +kernel

/-- The mask. -/
theorem ref_mask (a k : Fin 2048) : val_main_v82 (F := Ideal) (ix2 a k) = if Sees a k then 1#1 else 0#1 := by
  have h : val_main_v82 (F := Ideal) (ix2 a k) = IntOp.cmpi .sle (val_main_v77 (F := Ideal) (ix1 k)) (val_main_v77 (F := Ideal) (ix1 a)) := by
    pointwise [val_main_v82, val_main_v81, val_main_v80, val_main_v79, val_main_v78]
  rw [h, ref_chunk, ref_chunk]
  have hk := k.isLt
  have ha := a.isLt
  by_cases hs : Sees a k
  · rw [if_pos hs]
    unfold Sees at hs
    have : (BitVec.ofNat 32 (k.val / 64)).sle (BitVec.ofNat 32 (a.val / 64)) = true := by
      rw [BitVec.sle_iff_toInt_le, BitVec.toInt_ofNat', BitVec.toInt_ofNat']
      simp only [Int.bmod]
      omega
    simp [IntOp.cmpi, this]
  · rw [if_neg hs]
    unfold Sees at hs
    have : (BitVec.ofNat 32 (k.val / 64)).sle (BitVec.ofNat 32 (a.val / 64)) = false := by
      rw [← Bool.not_eq_true, BitVec.sle_iff_toInt_le, BitVec.toInt_ofNat', BitVec.toInt_ofNat']
      simp only [Int.bmod]
      omega
    simp [IntOp.cmpi, this]

/-- The scores scaled or hidden. -/
theorem ref_seen (b : Fin 4) (h : Fin 32) (a k : Fin 2048) : val_main_v83 (F := Ideal) Q KV L P (ix4 b h a k) = seen Q KV L P b h a k := by
  unfold seen
  pointwise [val_main_v83, val_main_cst_9, val_main_call1_v0, val_main_call1_v1, val_main_call1_v2]
  rw [ref_mask, ref_score]
  have hb : (id (constant (F := Ideal) S_ FTy.f32 0xFF800000#32) ix0 : EReal) = ⊥ := by
    show Ideal.ofBits FTy.f32 0xFF800000#32 = ⊥
    simp [Ideal.ofBits, Ideal.ieee]
  split_ifs with hs
  · rfl
  · exact hb

/-- A row's maximum. -/
theorem max_row (X : S4x32x2048x2048.Idx → Elt Ideal .f32) (h' : S4x32x2048x2048.ReducesTo [3] S4x32x2048) (hu) (b : Fin 4) (h : Fin 32) (a : Fin 2048) :
    Host.reduce (α := Ideal .f32) FloatOps.maximumf X (constant (F := Ideal) S_ .f32 0xFF800000#32) h' hu (ix3 b h a) = (Finset.univ.fold max ⊥ (fun k : Fin 2048 => X (ix4 b h a k)) : EReal) := by
  have hb : Ideal.ofBits FTy.f32 0xFF800000#32 = (⊥ : EReal) := by simp [Ideal.ofBits, Ideal.ieee]
  have hr : S4x32x2048x2048.Reduces [3] S4x32x2048 := by decide
  rw [Ideal.maximumf_eq_max]
  refine (Host.reduce_eq_fold_single max X _ h' hr hu _).trans ?_
  have hl : ∀ k : Fin 2048, hr.lift (ix3 b h a) k = ix4 b h a k := fun k => by
    funext c
    match c with
    | ⟨0, _⟩ => rfl
    | ⟨1, _⟩ => rfl
    | ⟨2, _⟩ => rfl
    | ⟨3, _⟩ => rfl
  show Finset.univ.fold max (Ideal.ofBits FTy.f32 0xFF800000#32) (fun k : Fin 2048 => X (hr.lift (ix3 b h a) k)) = _
  simp only [hl, hb]

end Cert.ReferenceIdeal.Attention

end
-- ==== Proof.Attention.Reference2.lean ====
/- The attention's reference at an index: the softmax and the output. -/
module

public import proofs.«01_k».proof.Proof.Gen.ReferenceIdeal.Read
public import proofs.«01_k».proof.Proof.Attention.Reference
public import proofs.«01_k».proof.Proof.Rows
public import proofs.«01_k».proof.Proof.Scalars
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Attention
open Cert.ReferenceIdeal Cert.ReferenceIdeal.Read Cert.Rows Cert.Attention Idealize.ShloMosaic

variable (Q : S4x2048x6144.Idx → Elt Ideal .f32) (KV : S4x2048x8192.Idx → Elt Ideal .f32) (L : S4x2048x1600.Idx → Elt Ideal .f32)
  (P : S4x2048.Idx → Elt Ideal .i32)

/-- A row's maximum. -/
theorem ref_max (b : Fin 4) (h : Fin 32) (a : Fin 2048) : val_main_v84 (F := Ideal) Q KV L P (ix3 b h a) = Finset.univ.fold max ⊥ (seen Q KV L P b h a) := by
  have hs : seen Q KV L P b h a = fun k => val_main_v83 (F := Ideal) Q KV L P (ix4 b h a k) := funext fun k => (ref_seen Q KV L P b h a k).symm
  rw [hs]
  unfold val_main_v84 val_main_cst_10
  generalize val_main_v83 (F := Ideal) Q KV L P = X
  exact max_row X _ _ b h a

/-- Its maximum with the least value is itself. -/
theorem ref_max' (b : Fin 4) (h : Fin 32) (a : Fin 2048) : val_main_v86 (F := Ideal) Q KV L P (ix3 b h a) = Finset.univ.fold max ⊥ (seen Q KV L P b h a) := by
  have hb : Ideal.ofBits FTy.f32 0xFF800000#32 = (⊥ : EReal) := by simp [Ideal.ofBits, Ideal.ieee]
  have h86 : val_main_v86 (F := Ideal) Q KV L P (ix3 b h a)
      = max (Ideal.ofBits FTy.f32 0xFF800000#32) (val_main_v84 (F := Ideal) Q KV L P (ix3 b h a)) := by
    rw [val_main_v86_apply]
    generalize val_main_v84 (F := Ideal) Q KV L P (ix3 b h a) = x
    rfl
  rw [h86, hb, bot_sup_eq, ref_max]

/-- The masses. -/
theorem ref_mass (b : Fin 4) (h : Fin 32) (a k : Fin 2048) : val_main_v90 (F := Ideal) Q KV L P (ix4 b h a k) = mass Q KV L P b h a k := by
  unfold mass
  rw [← ref_max', ← ref_seen]
  unfold val_main_v90 val_main_v89 val_main_v88 val_main_v87
  generalize val_main_v86 (F := Ideal) Q KV L P = X
  generalize val_main_v83 (F := Ideal) Q KV L P = Y
  pointwise
/-- The reference at an index. -/
theorem ref_apply (r : Fin 8192) (h : Fin 32) (d : Fin 128) : val_main_v98 (F := Ideal) Q KV L P (ix2 r ⟨128 * h.val + d.val, by omega⟩)
    = attend Q KV L P ⟨r.val / 2048, by omega⟩ h ⟨r.val % 2048, by omega⟩ d := by
  have h96 (b : Fin 4) (a : Fin 2048) : val_main_v96 (F := Ideal) Q KV L P (ix4 b a h d) = attend Q KV L P b h a d := by
    have h94 (k : Fin 2048) : val_main_v94 (F := Ideal) Q KV L P (ix4 b h a k)
        = Ideal.div (mass Q KV L P b h a k) (∑ k' : Fin 2048, mass Q KV L P b h a k') := by
      pointwise [val_main_v94, val_main_v93, val_main_v92, val_main_v91, val_main_cst_12]
      simp only [ref_mass]
    unfold attend vl
    simp only [← h94]
    pointwise [val_main_v96, val_main_v95, val_main_v67, val_main_v65]
    refine Finset.sum_congr rfl fun x _ => (mul_comm _ _).trans ?_
    congr 2
    blk_ext <;> omega
  rw [← h96]
  pointwise [val_main_v98, val_main_v97]
end Cert.ReferenceIdeal.Attention

end
-- ==== Proof.Attention.lean ====
/- The attention call's value: the output array holds the layer's attention at every row, head and lane. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Pre_finite
public import proofs.«01_k».proof.Proof.Gen.KernelIdeal.Value
public import proofs.«01_k».proof.Proof.Gen.ReferenceIdeal.Read
public import proofs.«01_k».proof.Proof.Attention.Join
public import proofs.«01_k».proof.Proof.Attention.Reference2

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Cert.Attention Cert.ReferenceIdeal.Read

attribute [local instance] Cert.Pre_finite.Gen.facts

variable {m : (ℓ : Loc nD τ sig) → Buf (Elt Ideal) ℓ}

/-- The kernel's result is the reference's. -/
theorem final (hf : Cert.Pre_KernelIdeal_finite m) (c : Dev nD) : (dats m 0 c).arrAt 8 cfg0.N
    = val_main_v98 (F := Ideal) (argQ m c) (argKV m c) (argL m c) (argP m c) := by
  refine (dats m 0 c).arrAt_eq_of_covers 8 _ (by decide +kernel) fun t hf' (y : S256x1024.Idx) => ?_
  have ht := lt_N t
  obtain ⟨a, hd, d, rfl⟩ : ∃ (a : Fin 256) (hd : Fin 8) (d : Fin 128), y = ix2 a ⟨128 * hd.val + d.val, by omega⟩ :=
    ⟨y 0, ⟨(y 1).val / 128, by have := (y 1).isLt; change (y 1).val < 1024 at this; omega⟩, ⟨(y 1).val % 128, by omega⟩, by blk_ext <;> omega⟩
  have he : ((cfg0.win 8).blk t).view.emb (ix2 a ⟨128 * hd.val + d.val, by omega⟩)
      = ix2 (⟨2048 * (t.val / 32) + (256 * (t.val % 8) + a.val), by omega⟩ : Fin 8192)
          (⟨128 * (8 * (t.val / 8 % 4) + hd.val) + d.val, by omega⟩ : Fin 4096) := by
    blk_ext [idx t] <;> omega
  refine Eq.trans ?_ ((congrArg _ he).trans (Cert.ReferenceIdeal.Attention.ref_apply _ _ _ _ _ (hdOf t hd) d)).symm
  blk_simp
  rw [after0_8]
  refine (tile_eq c t hf hd a d).trans ?_
  refine congrArg₂ (fun b s => attend _ _ _ _ b (hdOf t hd) s d) (Fin.ext ?_) (Fin.ext ?_)
  · simp only [seq]; omega
  · simp only [at_]; omega

end Cert.KernelIdeal.Attention

namespace Cert.Proof.Attention

open Idealize.ShloMosaic Idealize.ShloMosaic.TcCoe Idealize.SL.Sem

attribute [local instance] Cert.Pre_finite.Gen.facts

/-- The call and the reference leave the same array, from any arguments whose queries and keys are finite. -/
theorem algebraic : Cert.algebraic_KernelIdeal_ReferenceIdeal_pre_finite := by
  pair_intro
  · run_from Cert.KernelIdeal.Value.run_blocks m g
  · run_from Cert.ReferenceIdeal.Value.run m' g'
    rw [Cert.KernelIdeal.Attention.final hpre c]
    obtain ⟨h0, h1, h2, h3⟩ := hagree c
    refine (Cert.ReferenceIdeal.Read.val_main_v98_eq m' c).trans ?_
    rw [h0, h1, h2, h3]

end Cert.Proof.Attention

end
-- ==== Proof.Normed.lean ====
/- A row normalised by the root of its mean square, and the two places a call may put the row's factor: on the row
   before a contraction, or on the contraction's result. -/
module

public import proofs.«01_k».proof.Proof.Scalars
public import Idealize.ShloMosaic.Lib.Pointwise

@[expose] public section

noncomputable section

namespace Cert.Normed

open Idealize.ShloMosaic Cert.Scalars

/-- A row's factor: one over the root of its mean square (`n` the number of its entries) and a small constant. -/
def rstd {N : ℕ} (n : EReal) (x : Fin N → EReal) : EReal :=
  Ideal.rsqrt (Ideal.div (∑ k, x k * x k) n + Ideal.ofBits .f32 0x358637BD#32)

/-- Entry `k` of the row normalised, with its gain. -/
def normed {N : ℕ} (n : EReal) (x g : Fin N → EReal) (k : Fin N) : EReal := x k * rstd n x * g k

/-- A row's factor as the calls take it from 128 partial sums of squares. -/
def factor (ss : Fin 128 → EReal) : EReal :=
  Ideal.rsqrt ((∑ l, ss l) * Ideal.ofBits .f32 0x39800000#32 + Ideal.ofBits .f32 0x358637BD#32)

/-- The factor taken after a contraction is the row normalised before it. -/
theorem scaled (x g w : Fin 4096 → EReal) :
    (∑ k, x k * g k * w k) * factor (fun l => ∑ s : Fin 32, x (lane s l) * x (lane s l))
      = ∑ k, normed (Ideal.ofBits .f32 0x45800000#32) x g k * w k := by
  have hs : 0 ≤ (∑ k, x k * x k : EReal) := Finset.sum_nonneg fun k _ => mul_self_nonneg _
  unfold factor normed rstd
  rw [sum_lanes fun k => (x k * x k : EReal), ofBits_inv_4096, ofBits_4096, Ideal.div_coe (by norm_num)]
  obtain ⟨e, he, heq⟩ := ofBits_eps
  rw [heq]
  obtain ⟨q, hq, hqe⟩ := rsqrt_of_pos (x := (∑ k, x k * x k : EReal) * ((1 / 4096 : ℝ) : EReal) + (e : EReal))
    (lt_of_lt_of_le (by exact_mod_cast he)
      (le_add_of_nonneg_left (mul_nonneg hs (by exact_mod_cast (by norm_num : (0 : ℝ) ≤ 1 / 4096)))))
  rw [hqe, sum_mul_coe _ _ hq]
  refine Finset.sum_congr rfl fun k _ => ?_
  ac_rfl

end Cert.Normed

end
-- ==== Proof.FfnUp.lean ====
/- The feed-forward block's first call (`Kernel2`): the normalisation, the two projections (gate and up) and the gated
   product. The call multiplies each projection by its row's factor AFTER the contraction; the reference normalises
   the rows first. -/
module

public import proofs.«01_k».proof.Defs
public import proofs.«01_k».proof.Proof.Gen.Kernel2Ideal.Value
public import proofs.«01_k».proof.Proof.Gen.Reference2Ideal.Read
public import proofs.«01_k».proof.Proof.Rows
public import proofs.«01_k».proof.Proof.Normed
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)
open Cert.Rows Cert.Scalars Cert.Normed

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![(grid0.coords t 0).val, 0]
    ∧ win0_2.index t = ![0, 0, (grid0.coords t 1).val] ∧ win0_3.index t = ![0, 0, (grid0.coords t 1).val + 24]
    ∧ win0_4.index t = ![(grid0.coords t 0).val, (grid0.coords t 1).val] :=
  (by decide +kernel : ∀ t : Fin grid0.N, _)

section Formula

variable (x : S4x2048x4096.Idx → Elt Ideal .f32) (g : S2x4096.Idx → Elt Ideal .f32) (w : S2x4096x12288.Idx → Elt Ideal .f32)

/-- Column `j` of the two projections of the normalised row `r`. -/
def proj (r : Fin 8192) (j : Fin 12288) : EReal :=
  ∑ k, normed (Ideal.ofBits .f32 0x45800000#32) (row x r) (fun k => g (ix2 0 k)) k * w (ix3 0 k j)

/-- `silu(u)·v`. -/
def gated (u v : EReal) : EReal := u * Ideal.div 1 (1 + Ideal.exp (-u)) * v

end Formula

end Cert.Kernel2Ideal.Up

namespace Cert.Reference2Ideal.Up
open Cert.Reference2Ideal Cert.Reference2Ideal.Read Cert.Rows Cert.Normed Idealize.ShloMosaic Cert.Kernel2Ideal.Up

variable (x : S4x2048x4096.Idx → Elt Ideal .f32) (g : S2x4096.Idx → Elt Ideal .f32) (w : S2x4096x12288.Idx → Elt Ideal .f32)

/-- The reference at an index: the gated product of the two projections. -/
theorem ref_apply (r : Fin 8192) (j : Fin 6144) :
    val_main_v23 (F := Ideal) x g w (ix2 r j) = gated (proj x g w r ⟨j.val, by omega⟩) (proj x g w r ⟨6144 + j.val, by omega⟩) := by
  unfold val_main_v23 val_main_v22
  refine (join_apply (val_main_v21 (F := Ideal) x g w) _ (ix2 r j)).trans ?_
  unfold gated proj normed rstd row
  pointwise [val_main_v21, val_main_v20, val_main_call0_v5, val_main_call0_v4, val_main_call0_v3, val_main_call0_v2,
    val_main_call0_v1, val_main_call0_v0, val_main_call0_cst, val_main_call0_cst_0, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
end Cert.Reference2Ideal.Up

namespace Cert.Kernel2Ideal.Up

open Cert.Kernel2Ideal Cert.Kernel2Ideal.Gen Idealize.ShloMosaic Idealize.ShloMosaic.TcCoe Idealize.SL.Sem
open Idealize.ShloMosaic.Pipeline (Dat)
open Cert.Rows Cert.Scalars Cert.Normed
variable (m : (ℓ : Loc nD τ sig) → Buf (Elt Ideal) ℓ)

/-- What a grid point computes of the blocks it holds, at an index: each contraction is scaled by the row's factor after
    it is done. -/
theorem pay_apply (xb : S2048x4096.Idx → Elt Ideal .bf16) (ss : S2048x128.Idx → Elt Ideal .f32)
    (wg wu : S1x4096x256.Idx → Elt Ideal .f32) (a : Fin 2048) (b : Fin 256) :
    k0_pay1 (F := Ideal) xb ss wg wu (ix2 a b)
      = gated ((∑ k, xb (ix2 a k) * wg (ix3 0 k b)) * factor fun l => ss (ix2 a l)) ((∑ k, xb (ix2 a k) * wu (ix3 0 k b)) * factor fun l => ss (ix2 a l)) := by
  unfold gated factor
  pointwise [k0_pay1]
  simp only [zero_sub]

/-- The three arguments as launched. -/
abbrev argX (c : Dev nD) : S4x2048x4096.Idx → Elt Ideal .f32 := m ((c : Thread nD τ).loc main_arg0)
abbrev argG (c : Dev nD) : S2x4096.Idx → Elt Ideal .f32 := m ((c : Thread nD τ).loc main_arg1)
abbrev argW (c : Dev nD) : S2x4096x12288.Idx → Elt Ideal .f32 := m ((c : Thread nD τ).loc main_arg2)

/-- The host's partial sums of squares: lane by lane over a row's 32 slices. -/
theorem V_ss (c : Dev nD) (r : Fin 8192) (l : Fin 128) : (V m c main_v70 : S8192x128.Idx → Elt Ideal .f32) (ix2 r l)
    = (∑ s : Fin 32, row (argX m c) r (lane s l) * row (argX m c) r (lane s l) : EReal) := by
  simp only [Fin.sum_univ_castSucc, Fin.sum_univ_zero, zero_add]
  unfold V
  after_results
  pointwise
  unfold row lane
  simp [Nat.add_comm]

/-- The host's bf16 operand: every entry times its column's gain. -/
theorem V_xb (c : Dev nD) (r : Fin 8192) (k : Fin 4096) : (V m c main_v6 : S8192x4096.Idx → Elt Ideal .bf16) (ix2 r k)
    = row (argX m c) r k * argG m c (ix2 0 k) := by
  unfold V row
  after_results
  pointwise

section Blocks

variable (c : Dev nD) (t : Fin cfg0.N) (a : Fin 2048) (r : Fin 8192) (hr : r.val = (grid0.coords t 0).val * 2048 + a.val)
include hr

theorem block_x (k : Fin 4096) : iblk m c 0 t (ix2 a k) = row (argX m c) r k * argG m c (ix2 0 k) := by
  rw [← V_xb]
  blk_ext [iblk, idx t]

theorem block_ss (l : Fin 128) : iblk m c 1 t (ix2 a l)
    = (∑ s : Fin 32, row (argX m c) r (lane s l) * row (argX m c) r (lane s l) : EReal) := by
  rw [← V_ss]
  blk_ext [iblk, idx t]

end Blocks

theorem block_gate (c : Dev nD) (t : Fin cfg0.N) (k : Fin 4096) (b : Fin 256) (j : Fin 12288)
    (hj : j.val = (grid0.coords t 1).val * 256 + b.val) : iblk m c 2 t (ix3 0 k b) = argW m c (ix3 0 k j) := by
  blk_ext! [iblk, V, idx t]

theorem block_up (c : Dev nD) (t : Fin cfg0.N) (k : Fin 4096) (b : Fin 256) (j : Fin 12288)
    (hj : j.val = 6144 + (grid0.coords t 1).val * 256 + b.val) : iblk m c 3 t (ix3 0 k b) = argW m c (ix3 0 k j) := by
  blk_ext! [iblk, V, idx t]
  all_goals omega

/-- The result array after the run is the reference's. -/
theorem final (c : Dev nD) : (dats m 0 c).arrAt 4 cfg0.N
    = Cert.Reference2Ideal.Read.val_main_v23 (F := Ideal) (argX m c) (argG m c) (argW m c) := by
  refine (dats m 0 c).arrAt_eq_of_covers 4 _ (by decide +kernel) fun t hf (y : S2048x256.Idx) => ?_
  have h0 : (grid0.coords t 0).val < 4 := (grid0.coords t 0).isLt
  have h1 : (grid0.coords t 1).val < 24 := (grid0.coords t 1).isLt
  obtain ⟨a, b, rfl⟩ : ∃ (a : Fin 2048) (b : Fin 256), y = ix2 a b := ⟨y 0, y 1, by blk_ext⟩
  have ha := a.isLt
  have hb := b.isLt
  have he : ((cfg0.win 4).blk t).view.emb (ix2 a b)
      = ix2 (⟨(grid0.coords t 0).val * 2048 + a.val, by omega⟩ : Fin 8192) (⟨(grid0.coords t 1).val * 256 + b.val, by omega⟩ : Fin 6144) := by
    blk_ext [idx t]
  refine Eq.trans ?_ ((congrArg _ he).trans (Cert.Reference2Ideal.Up.ref_apply _ _ _ _ _)).symm
  blk_simp
  rw [after0_4]
  frame_out
  refine (pay_apply _ _ _ _ _ _).trans ?_
  simp only [fun k => block_x m c t a ⟨(grid0.coords t 0).val * 2048 + a.val, by omega⟩ rfl k,
    fun l => block_ss m c t a ⟨(grid0.coords t 0).val * 2048 + a.val, by omega⟩ rfl l,
    fun k => block_gate m c t k b ⟨(grid0.coords t 1).val * 256 + b.val, by omega⟩ rfl,
    fun k => block_up m c t k b ⟨6144 + ((grid0.coords t 1).val * 256 + b.val), by omega⟩ (by simp only; omega)]
  exact congrArg₂ gated (scaled _ (fun k => argG m c (ix2 0 k)) _) (scaled _ (fun k => argG m c (ix2 0 k)) _)

end Cert.Kernel2Ideal.Up

namespace Cert.Proof.FfnUp

/-- The call and the reference leave the same array, from any arguments. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Up.final m c]
    rfl

end Cert.Proof.FfnUp

end
-- ==== Proof.FfnDown.lean ====
/- The feed-forward block's second call (`Kernel3`): the down projection added to the residual stream, and for the next
   normalisation the same times a gain and the row's partial sums of squares, which the call gathers over the
   column tiles of a row tile. -/
module

public import proofs.«01_k».proof.Defs
public import proofs.«01_k».proof.Proof.Gen.Kernel3Ideal.Value
public import proofs.«01_k».proof.Proof.Gen.Reference3Ideal.Read
public import proofs.«01_k».proof.Proof.Rows
public import proofs.«01_k».proof.Proof.Scalars
public import Idealize.ShloMosaic.Lib.Pointwise
public import Idealize.ShloMosaic.Lib.Pipeline.ValueKit
public import Idealize.ShloMosaic.Lib.Claim

@[expose] public section

set_option maxRecDepth 16384

noncomputable section

namespace Cert.Reference3Ideal.Down

open Cert.Reference3Ideal Cert.Reference3Ideal.Read Cert.Rows Cert.Scalars Idealize.ShloMosaic

variable (x : S4x2048x4096.Idx → Elt Ideal .f32) (h : S4x2048x6144.Idx → Elt Ideal .f32) (w : S2x6144x4096.Idx → Elt Ideal .f32)
  (g : S4096.Idx → Elt Ideal .f32)

/-- Entry (r, j) of the residual stream after the call. -/
def sum (r : Fin 8192) (j : Fin 4096) : EReal :=
  row x r j + Ideal.ofBits .f32 0x3F000000#32 * ∑ k, row h r k * w (ix3 0 k j)

/-- The reference's three results at an index: the residual stream, -/
theorem ref_out (r : Fin 8192) (j : Fin 4096) : val_main_v9 (F := Ideal) x h w (ix2 r j) = sum x h w r j := by
  unfold val_main_v9
  refine (join_apply (val_main_v5 (F := Ideal) x h w) _ (ix2 r j)).trans ?_
  unfold sum row
  pointwise [val_main_v5, val_main_v4, val_main_v3, val_main_v2, val_main_v1, val_main_v0, val_main_cst]

/-- the same times the next gain, -/
theorem ref_scaled (r : Fin 8192) (j : Fin 4096) : val_main_v14 (F := Ideal) x h w g (ix2 r j) = sum x h w r j * g (ix1 j) := by
  unfold val_main_v14 val_main_v13
  refine (join_apply (val_main_v12 (F := Ideal) x h w g) _ (ix2 r j)).trans ?_
  unfold sum row
  pointwise [val_main_v12, val_main_v11, val_main_v10, val_main_v5, val_main_v4, val_main_v3, val_main_v2, val_main_v1, val_main_v0, val_main_cst]

/-- and each row's partial sums of squares, one per lane. -/
theorem ref_squares (r : Fin 8192) (l : Fin 128) :
    val_main_v8 (F := Ideal) x h w (ix2 r l) = (∑ s, sum x h w r (lane s l) * sum x h w r (lane s l) : EReal) := by
  unfold sum row lane
  pointwise [val_main_v8, val_main_v7, val_main_cst_0, val_main_v6, val_main_v5, val_main_v4, val_main_v3, val_main_v2, val_main_v1,
    val_main_v0, val_main_cst]

end Cert.Reference3Ideal.Down

namespace Cert.Kernel3Ideal.Down

open Cert.Kernel3Ideal Cert.Kernel3Ideal.Gen Idealize.ShloMosaic Idealize.ShloMosaic.TcCoe Idealize.SL.Sem
open Idealize.ShloMosaic.Pipeline (Dat)
open Cert.Rows Cert.Scalars
open Cert.Reference3Ideal.Down (sum ref_out ref_scaled ref_squares)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, 0, (grid0.coords t 1).val]
    ∧ win0_2.index t = ![(grid0.coords t 0).val, (grid0.coords t 1).val] ∧ win0_3.index t = ![0, (grid0.coords t 1).val]
    ∧ win0_4.index t = ![(grid0.coords t 0).val, (grid0.coords t 1).val] ∧ win0_5.index t = ![(grid0.coords t 0).val, (grid0.coords t 1).val]
    ∧ win0_6.index t = ![(grid0.coords t 0).val, 0] ∧ (grid0.coords t 0).val = t.val / 16 ∧ (grid0.coords t 1).val = t.val % 16 :=
  (by decide +kernel : ∀ t : Fin grid0.N, _)

section Payloads

variable (h : S1024x6144.Idx → Elt Ideal .bf16) (w : S1x6144x256.Idx → Elt Ideal .f32) (x : S1024x256.Idx → Elt Ideal .f32)
  (g : S1x256.Idx → Elt Ideal .f32) (q : S1024x128.Idx → Elt Ideal .f32)

/-- A tile's entry of the residual stream, of the blocks a grid point holds. -/
def tile (a : Fin 1024) (b : Fin 256) : EReal :=
  x (ix2 a b) + Ideal.ofBits .f32 0x3F000000#32 * ∑ k, h (ix2 a k) * w (ix3 0 k b)

theorem pay_out (a : Fin 1024) (b : Fin 256) : k0_pay1 (F := Ideal) h w x (ix2 a b) = tile h w x a b := by
  unfold tile
  pointwise [k0_pay1]

theorem pay_scaled (a : Fin 1024) (b : Fin 256) : k0_pay2 (F := Ideal) h w x g (ix2 a b) = tile h w x a b * g (ix2 0 b) := by
  unfold tile
  pointwise [k0_pay2, k0_pay1]

/-- The squares a tile adds to lane `l`: one from each of its slices of 128 lanes. -/
theorem pay_squares (a : Fin 1024) (l : Fin 128) : k0_pay3 (F := Ideal) h w x (ix2 a l)
    = (∑ u : Fin 2, tile h w x a ⟨u.val * 128 + l.val, by omega⟩ * tile h w x a ⟨u.val * 128 + l.val, by omega⟩ : EReal) := by
  simp only [Fin.sum_univ_castSucc, Fin.sum_univ_zero, zero_add]
  unfold tile
  pointwise [k0_pay3, k0_pay1]
  simp [Nat.add_comm]

theorem pay_gather (a : Fin 1024) (l : Fin 128) : k0_pay4 (F := Ideal) h w x q (ix2 a l)
    = q (ix2 a l) + k0_pay3 (F := Ideal) h w x (ix2 a l) := by
  pointwise [k0_pay4]

end Payloads

/-! ## The blocks a grid point holds -/

/-- The four arguments as launched. -/
abbrev argX (c : Dev nD) : S4x2048x4096.Idx → Elt Ideal .f32 := m ((c : Thread nD τ).loc main_arg0)
abbrev argH (c : Dev nD) : S4x2048x6144.Idx → Elt Ideal .f32 := m ((c : Thread nD τ).loc main_arg1)
abbrev argW (c : Dev nD) : S2x6144x4096.Idx → Elt Ideal .f32 := m ((c : Thread nD τ).loc main_arg2)
abbrev argG (c : Dev nD) : S4096.Idx → Elt Ideal .f32 := m ((c : Thread nD τ).loc main_arg3)

/-- The row of the array that row `a` of point `t`'s row tile is. -/
def rowOf (t : Fin cfg0.N) (a : Fin 1024) : Fin 8192 :=
  ⟨(grid0.coords t 0).val * 1024 + a.val, by have h0 : (grid0.coords t 0).val < 8 := (grid0.coords t 0).isLt; omega⟩

/-- The column of the array that column `b` of point `t`'s column tile is. -/
def colOf (t : Fin cfg0.N) (b : Fin 256) : Fin 4096 :=
  ⟨(grid0.coords t 1).val * 256 + b.val, by have h1 : (grid0.coords t 1).val < 16 := (grid0.coords t 1).isLt; omega⟩

variable (c : Dev nD) (t : Fin cfg0.N)

theorem block_h (a : Fin 1024) (k : Fin 6144) : iblk m c 0 t (ix2 a k) = row (argH m c) (rowOf t a) k := by
  unfold row rowOf
  blk_ext! [iblk, V, idx t]

theorem block_w (k : Fin 6144) (b : Fin 256) : iblk m c 1 t (ix3 0 k b) = argW m c (ix3 0 k (colOf t b)) := by
  unfold colOf
  blk_ext! [iblk, V, idx t]

theorem block_x (a : Fin 1024) (b : Fin 256) : iblk m c 2 t (ix2 a b) = row (argX m c) (rowOf t a) (colOf t b) := by
  have h1 : (grid0.coords t 1).val < 16 := (grid0.coords t 1).isLt
  unfold row rowOf colOf
  blk_ext! [iblk, V, idx t] <;> omega

theorem block_g (b : Fin 256) : iblk m c 3 t (ix2 0 b) = argG m c (ix1 (colOf t b)) := by
  unfold colOf
  blk_ext! [iblk, V, idx t]

/-- A tile's entry is the reference's. -/
theorem tile_eq (a : Fin 1024) (b : Fin 256) : tile (iblk m c 0 t) (iblk m c 1 t) (iblk m c 2 t) a b
    = sum (argX m c) (argH m c) (argW m c) (rowOf t a) (colOf t b) := by
  unfold tile sum
  simp only [block_x, block_h, block_w]

/-! ## The three result arrays -/

/-- The residual stream. -/
theorem final_out : (dats m 0 c).arrAt 4 cfg0.N
    = Cert.Reference3Ideal.Read.val_main_v9 (F := Ideal) (argX m c) (argH m c) (argW m c) := by
  refine (dats m 0 c).arrAt_eq_of_covers 4 _ (by decide +kernel) fun t hf (y : S1024x256.Idx) => ?_
  obtain ⟨a, b, rfl⟩ : ∃ (a : Fin 1024) (b : Fin 256), y = ix2 a b := ⟨y 0, y 1, by blk_ext⟩
  have he : ((cfg0.win 4).blk t).view.emb (ix2 a b) = ix2 (rowOf t a) (colOf t b) := by
    unfold rowOf colOf
    blk_ext [idx t]
  refine Eq.trans ?_ ((congrArg _ he).trans (ref_out _ _ _ _ _)).symm
  blk_simp
  rw [after0_4]
  by_cases h : t.val % 16 = 0
  · rw [outsAt0_A m c t h (by omega)]
    frame_out
    exact (pay_out _ _ _ _ _).trans (tile_eq m c t a b)
  · rw [outsAt0_B m c t h (by omega)]
    frame_out
    exact (pay_out _ _ _ _ _).trans (tile_eq m c t a b)

/-- The residual stream times the next gain. -/
theorem final_scaled : (dats m 0 c).arrAt 5 cfg0.N
    = Cert.Reference3Ideal.Read.val_main_v14 (F := Ideal) (argX m c) (argH m c) (argW m c) (argG m c) := by
  refine (dats m 0 c).arrAt_eq_of_covers 5 _ (by decide +kernel) fun t hf (y : S1024x256.Idx) => ?_
  obtain ⟨a, b, rfl⟩ : ∃ (a : Fin 1024) (b : Fin 256), y = ix2 a b := ⟨y 0, y 1, by blk_ext⟩
  have he : ((cfg0.win 5).blk t).view.emb (ix2 a b) = ix2 (rowOf t a) (colOf t b) := by
    unfold rowOf colOf
    blk_ext [idx t]
  refine Eq.trans ?_ ((congrArg _ he).trans (ref_scaled _ _ _ _ _ _)).symm
  blk_simp
  rw [after0_5]
  by_cases h : t.val % 16 = 0
  · rw [outsAt0_A m c t h (by omega)]
    frame_out
    refine (pay_scaled _ _ _ _ _ _).trans ?_
    rw [tile_eq, block_g]
  · rw [outsAt0_B m c t h (by omega)]
    frame_out
    refine (pay_scaled _ _ _ _ _ _).trans ?_
    rw [tile_eq, block_g]

/-- The squares point `t` adds to lane `l` of its row. -/
theorem squares_eq (a : Fin 1024) (l : Fin 128) :
    k0_pay3 (F := Ideal) (iblk m c 0 t) (iblk m c 1 t) (iblk m c 2 t) (ix2 a l)
      = (∑ u : Fin 2, sum (argX m c) (argH m c) (argW m c) (rowOf t a) (colOf t ⟨u.val * 128 + l.val, by omega⟩)
          * sum (argX m c) (argH m c) (argW m c) (rowOf t a) (colOf t ⟨u.val * 128 + l.val, by omega⟩) : EReal) := by
  rw [pay_squares]
  simp only [tile_eq]

/-- The gathered partial sums of squares. -/
theorem final_squares : (dats m 0 c).arrAt 6 cfg0.N
    = Cert.Reference3Ideal.Read.val_main_v8 (F := Ideal) (argX m c) (argH m c) (argW m c) := by
  refine (dats m 0 c).arrAt_eq_of_covers 6 _ (by decide +kernel) fun t hf (y : S1024x128.Idx) => ?_
  obtain ⟨a, l, rfl⟩ : ∃ (a : Fin 1024) (l : Fin 128), y = ix2 a l := ⟨y 0, y 1, by blk_ext⟩
  have ht := (flush0_6 t).mp hf
  have he : ((cfg0.win 6).blk t).view.emb (ix2 a l) = ix2 (rowOf t a) l := by
    unfold rowOf
    blk_ext [idx t]
  refine Eq.trans ?_ ((congrArg _ he).trans (ref_squares _ _ _ _ _)).symm
  blk_simp
  rw [after0_6, Pipeline.eq_sum_fin_of_reset_step_apply_of_flush (fun n h => (outsAt0 m c n h).2.2) 16 (fun _ => (0 : EReal))
    (fun t i => k0_pay3 (F := Ideal) (iblk m c 0 t) (iblk m c 1 t) (iblk m c 2 t) i)
    (fun t h i => by
      rw [outsAt0_A m c t h (by omega)]
      frame_out
      exact (zero_add _).symm)
    (fun t h i => by
      rw [outsAt0_B m c t h (by omega)]
      frame_out
      obtain ⟨a, l, rfl⟩ : ∃ (a : Fin 1024) (l : Fin 128), i = ix2 a l := ⟨i 0, i 1, by blk_ext⟩
      exact pay_gather _ _ _ _ _ _) t ht (ix2 a l)]
  rw [zero_add]
  simp only [squares_eq]
  refine Fin.sum_mul_add_congr (L := 32) (S := 16) (n := 2) (fun s u hl => ?_)
  have hs := s.isLt
  have e0 : rowOf ⟨16 * (t.val / 16) + s.val, Pipeline.run_point_lt_of_flush t ht s⟩ a = rowOf t a := by
    unfold rowOf
    ext
    simp only [idx]
    omega
  have e1 : colOf ⟨16 * (t.val / 16) + s.val, Pipeline.run_point_lt_of_flush t ht s⟩ ⟨u.val * 128 + l.val, by omega⟩
      = lane ⟨s.val * 2 + u.val, hl⟩ l := by
    unfold colOf lane
    ext
    simp only [idx]
    omega
  rw [e0, e1]

end Cert.Kernel3Ideal.Down

namespace Cert.Proof.FfnDown

/-- The call and the reference leave the same three arrays, from any arguments. -/
theorem algebraic : Cert.algebraic_Kernel3Ideal_Reference3Ideal := by
  pair_intro
  · run_from Cert.Kernel3Ideal.Value.run_blocks m g
  · run_from Cert.Reference3Ideal.Value.run m' g'
    · rw [Cert.Kernel3Ideal.Down.final_out m c]
      rfl
    · rw [Cert.Kernel3Ideal.Down.final_scaled m c]
      rfl
    · rw [Cert.Kernel3Ideal.Down.final_squares m c]
      rfl

end Cert.Proof.FfnDown

end
-- ==== Proof.OutProj.lean ====
/- The output projection (`Kernel4`): a mixer's heads through `w_o`, added to the residual stream, and for the next
   normalisation the same times a gain and the row's partial sums of squares, which the call gathers over the
   column tiles of a row tile. -/
module

public import proofs.«01_k».proof.Defs
public import proofs.«01_k».proof.Proof.Gen.Kernel4Ideal.Value
public import proofs.«01_k».proof.Proof.Gen.Reference4Ideal.Read
public import proofs.«01_k».proof.Proof.Rows
public import proofs.«01_k».proof.Proof.Scalars
public import Idealize.ShloMosaic.Lib.Pointwise
public import Idealize.ShloMosaic.Lib.Pipeline.ValueKit
public import Idealize.ShloMosaic.Lib.Claim

@[expose] public section

set_option maxRecDepth 16384

noncomputable section

namespace Cert.Reference4Ideal.Out

open Cert.Reference4Ideal Cert.Reference4Ideal.Read Cert.Rows Cert.Scalars Idealize.ShloMosaic

variable (x : S4x2048x4096.Idx → Elt Ideal .f32) (h : S4x2048x4096.Idx → Elt Ideal .f32) (w : S4096x4096.Idx → Elt Ideal .f32)
  (g : S4096.Idx → Elt Ideal .f32)

/-- Entry (r, j) of the residual stream after the call. -/
def sum (r : Fin 8192) (j : Fin 4096) : EReal :=
  row x r j + ∑ k, row h r k * w (ix2 k j)

/-- The reference's three results at an index: the residual stream, -/
theorem ref_out (r : Fin 8192) (j : Fin 4096) : val_main_v5 (F := Ideal) x h w (ix2 r j) = sum x h w r j := by
  unfold val_main_v5
  refine (join_apply (val_main_v1 (F := Ideal) x h w) _ (ix2 r j)).trans ?_
  unfold sum row
  pointwise [val_main_v1, val_main_v0]

/-- the same times the next gain, -/
theorem ref_scaled (r : Fin 8192) (j : Fin 4096) : val_main_v10 (F := Ideal) x h w g (ix2 r j) = sum x h w r j * g (ix1 j) := by
  unfold val_main_v10 val_main_v9
  refine (join_apply (val_main_v8 (F := Ideal) x h w g) _ (ix2 r j)).trans ?_
  unfold sum row
  pointwise [val_main_v8, val_main_v7, val_main_v6, val_main_v1, val_main_v0]

/-- and each row's partial sums of squares, one per lane. -/
theorem ref_squares (r : Fin 8192) (l : Fin 128) :
    val_main_v4 (F := Ideal) x h w (ix2 r l) = (∑ s, sum x h w r (lane s l) * sum x h w r (lane s l) : EReal) := by
  unfold sum row lane
  pointwise [val_main_v4, val_main_v3, val_main_cst, val_main_v2, val_main_v1, val_main_v0]

end Cert.Reference4Ideal.Out

namespace Cert.Kernel4Ideal.Out

open Cert.Kernel4Ideal Cert.Kernel4Ideal.Gen Idealize.ShloMosaic Idealize.ShloMosaic.TcCoe Idealize.SL.Sem
open Idealize.ShloMosaic.Pipeline (Dat)
open Cert.Rows Cert.Scalars
open Cert.Reference4Ideal.Out (sum ref_out ref_scaled ref_squares)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![0, (grid0.coords t 1).val]
    ∧ win0_4.index t = ![(grid0.coords t 0).val, (grid0.coords t 1).val] ∧ win0_5.index t = ![(grid0.coords t 0).val, (grid0.coords t 1).val]
    ∧ win0_6.index t = ![(grid0.coords t 0).val, 0] ∧ (grid0.coords t 0).val = t.val / 8 ∧ (grid0.coords t 1).val = t.val % 8 :=
  (by decide +kernel : ∀ t : Fin grid0.N, _)

section Payloads

variable (h : S1024x4096.Idx → Elt Ideal .bf16) (w : S4096x512.Idx → Elt Ideal .bf16) (x : S1024x512.Idx → Elt Ideal .f32)
  (g : S1x512.Idx → Elt Ideal .f32) (q : S1024x128.Idx → Elt Ideal .f32)

/-- A tile's entry of the residual stream, of the blocks a grid point holds. -/
def tile (a : Fin 1024) (b : Fin 512) : EReal :=
  x (ix2 a b) + ∑ k, h (ix2 a k) * w (ix2 k b)

theorem pay_out (a : Fin 1024) (b : Fin 512) : k0_pay1 (F := Ideal) h w x (ix2 a b) = tile h w x a b := by
  unfold tile
  pointwise [k0_pay1]

theorem pay_scaled (a : Fin 1024) (b : Fin 512) : k0_pay2 (F := Ideal) h w x g (ix2 a b) = tile h w x a b * g (ix2 0 b) := by
  unfold tile
  pointwise [k0_pay2, k0_pay1]

/-- The squares a tile adds to lane `l`: one from each of its slices of 128 lanes. -/
theorem pay_squares (a : Fin 1024) (l : Fin 128) : k0_pay3 (F := Ideal) h w x (ix2 a l)
    = (∑ u : Fin 4, tile h w x a ⟨u.val * 128 + l.val, by omega⟩ * tile h w x a ⟨u.val * 128 + l.val, by omega⟩ : EReal) := by
  simp only [Fin.sum_univ_castSucc, Fin.sum_univ_zero, zero_add]
  unfold tile
  pointwise [k0_pay3, k0_pay1]
  simp [Nat.add_comm]

theorem pay_gather (a : Fin 1024) (l : Fin 128) : k0_pay4 (F := Ideal) h w x q (ix2 a l)
    = q (ix2 a l) + k0_pay3 (F := Ideal) h w x (ix2 a l) := by
  pointwise [k0_pay4]

end Payloads

/-! ## The blocks a grid point holds -/

/-- The four arguments as launched. -/
abbrev argX (c : Dev nD) : S4x2048x4096.Idx → Elt Ideal .f32 := m ((c : Thread nD τ).loc main_arg0)
abbrev argH (c : Dev nD) : S4x2048x4096.Idx → Elt Ideal .f32 := m ((c : Thread nD τ).loc main_arg1)
abbrev argW (c : Dev nD) : S4096x4096.Idx → Elt Ideal .f32 := m ((c : Thread nD τ).loc main_arg2)
abbrev argG (c : Dev nD) : S4096.Idx → Elt Ideal .f32 := m ((c : Thread nD τ).loc main_arg3)

/-- The row of the array that row `a` of point `t`'s row tile is. -/
def rowOf (t : Fin cfg0.N) (a : Fin 1024) : Fin 8192 :=
  ⟨(grid0.coords t 0).val * 1024 + a.val, by have h0 : (grid0.coords t 0).val < 8 := (grid0.coords t 0).isLt; omega⟩

/-- The column of the array that column `b` of point `t`'s column tile is. -/
def colOf (t : Fin cfg0.N) (b : Fin 512) : Fin 4096 :=
  ⟨(grid0.coords t 1).val * 512 + b.val, by have h1 : (grid0.coords t 1).val < 8 := (grid0.coords t 1).isLt; omega⟩

variable (c : Dev nD) (t : Fin cfg0.N)

theorem block_h (a : Fin 1024) (k : Fin 4096) : iblk m c 0 t (ix2 a k) = row (argH m c) (rowOf t a) k := by
  unfold row rowOf
  blk_ext! [iblk, V, idx t]

theorem block_w (k : Fin 4096) (b : Fin 512) : iblk m c 1 t (ix2 k b) = argW m c (ix2 k (colOf t b)) := by
  unfold colOf
  blk_ext! [iblk, V, idx t]

theorem block_x (a : Fin 1024) (b : Fin 512) : iblk m c 2 t (ix2 a b) = row (argX m c) (rowOf t a) (colOf t b) := by
  have h1 : (grid0.coords t 1).val < 8 := (grid0.coords t 1).isLt
  unfold row rowOf colOf
  blk_ext! [iblk, V, idx t] <;> omega

theorem block_g (b : Fin 512) : iblk m c 3 t (ix2 0 b) = argG m c (ix1 (colOf t b)) := by
  unfold colOf
  blk_ext! [iblk, V, idx t]

/-- A tile's entry is the reference's. -/
theorem tile_eq (a : Fin 1024) (b : Fin 512) : tile (iblk m c 0 t) (iblk m c 1 t) (iblk m c 2 t) a b
    = sum (argX m c) (argH m c) (argW m c) (rowOf t a) (colOf t b) := by
  unfold tile sum
  simp only [block_x, block_h, block_w]

/-! ## The three result arrays -/

/-- The residual stream. -/
theorem final_out : (dats m 0 c).arrAt 4 cfg0.N
    = Cert.Reference4Ideal.Read.val_main_v5 (F := Ideal) (argX m c) (argH m c) (argW m c) := by
  refine (dats m 0 c).arrAt_eq_of_covers 4 _ (by decide +kernel) fun t hf (y : S1024x512.Idx) => ?_
  obtain ⟨a, b, rfl⟩ : ∃ (a : Fin 1024) (b : Fin 512), y = ix2 a b := ⟨y 0, y 1, by blk_ext⟩
  have he : ((cfg0.win 4).blk t).view.emb (ix2 a b) = ix2 (rowOf t a) (colOf t b) := by
    unfold rowOf colOf
    blk_ext [idx t]
  refine Eq.trans ?_ ((congrArg _ he).trans (ref_out _ _ _ _ _)).symm
  blk_simp
  rw [after0_4]
  by_cases h : t.val % 8 = 0
  · rw [outsAt0_A m c t h (by omega)]
    frame_out
    exact (pay_out _ _ _ _ _).trans (tile_eq m c t a b)
  · rw [outsAt0_B m c t h (by omega)]
    frame_out
    exact (pay_out _ _ _ _ _).trans (tile_eq m c t a b)

/-- The residual stream times the next gain. -/
theorem final_scaled : (dats m 0 c).arrAt 5 cfg0.N
    = Cert.Reference4Ideal.Read.val_main_v10 (F := Ideal) (argX m c) (argH m c) (argW m c) (argG m c) := by
  refine (dats m 0 c).arrAt_eq_of_covers 5 _ (by decide +kernel) fun t hf (y : S1024x512.Idx) => ?_
  obtain ⟨a, b, rfl⟩ : ∃ (a : Fin 1024) (b : Fin 512), y = ix2 a b := ⟨y 0, y 1, by blk_ext⟩
  have he : ((cfg0.win 5).blk t).view.emb (ix2 a b) = ix2 (rowOf t a) (colOf t b) := by
    unfold rowOf colOf
    blk_ext [idx t]
  refine Eq.trans ?_ ((congrArg _ he).trans (ref_scaled _ _ _ _ _ _)).symm
  blk_simp
  rw [after0_5]
  by_cases h : t.val % 8 = 0
  · rw [outsAt0_A m c t h (by omega)]
    frame_out
    refine (pay_scaled _ _ _ _ _ _).trans ?_
    rw [tile_eq, block_g]
  · rw [outsAt0_B m c t h (by omega)]
    frame_out
    refine (pay_scaled _ _ _ _ _ _).trans ?_
    rw [tile_eq, block_g]

/-- The squares point `t` adds to lane `l` of its row. -/
theorem squares_eq (a : Fin 1024) (l : Fin 128) :
    k0_pay3 (F := Ideal) (iblk m c 0 t) (iblk m c 1 t) (iblk m c 2 t) (ix2 a l)
      = (∑ u : Fin 4, sum (argX m c) (argH m c) (argW m c) (rowOf t a) (colOf t ⟨u.val * 128 + l.val, by omega⟩)
          * sum (argX m c) (argH m c) (argW m c) (rowOf t a) (colOf t ⟨u.val * 128 + l.val, by omega⟩) : EReal) := by
  rw [pay_squares]
  simp only [tile_eq]

/-- The gathered partial sums of squares. -/
theorem final_squares : (dats m 0 c).arrAt 6 cfg0.N
    = Cert.Reference4Ideal.Read.val_main_v4 (F := Ideal) (argX m c) (argH m c) (argW m c) := by
  refine (dats m 0 c).arrAt_eq_of_covers 6 _ (by decide +kernel) fun t hf (y : S1024x128.Idx) => ?_
  obtain ⟨a, l, rfl⟩ : ∃ (a : Fin 1024) (l : Fin 128), y = ix2 a l := ⟨y 0, y 1, by blk_ext⟩
  have ht := (flush0_6 t).mp hf
  have he : ((cfg0.win 6).blk t).view.emb (ix2 a l) = ix2 (rowOf t a) l := by
    unfold rowOf
    blk_ext [idx t]
  refine Eq.trans ?_ ((congrArg _ he).trans (ref_squares _ _ _ _ _)).symm
  blk_simp
  rw [after0_6, Pipeline.eq_sum_fin_of_reset_step_apply_of_flush (fun n h => (outsAt0 m c n h).2.2) 8 (fun _ => (0 : EReal))
    (fun t i => k0_pay3 (F := Ideal) (iblk m c 0 t) (iblk m c 1 t) (iblk m c 2 t) i)
    (fun t h i => by
      rw [outsAt0_A m c t h (by omega)]
      frame_out
      exact (zero_add _).symm)
    (fun t h i => by
      rw [outsAt0_B m c t h (by omega)]
      frame_out
      obtain ⟨a, l, rfl⟩ : ∃ (a : Fin 1024) (l : Fin 128), i = ix2 a l := ⟨i 0, i 1, by blk_ext⟩
      exact pay_gather _ _ _ _ _ _) t ht (ix2 a l)]
  rw [zero_add]
  simp only [squares_eq]
  refine Fin.sum_mul_add_congr (L := 32) (S := 8) (n := 4) (fun s u hl => ?_)
  have hs := s.isLt
  have e0 : rowOf ⟨8 * (t.val / 8) + s.val, Pipeline.run_point_lt_of_flush t ht s⟩ a = rowOf t a := by
    unfold rowOf
    ext
    simp only [idx]
    omega
  have e1 : colOf ⟨8 * (t.val / 8) + s.val, Pipeline.run_point_lt_of_flush t ht s⟩ ⟨u.val * 128 + l.val, by omega⟩
      = lane ⟨s.val * 4 + u.val, hl⟩ l := by
    unfold colOf lane
    ext
    simp only [idx]
    omega
  rw [e0, e1]

end Cert.Kernel4Ideal.Out

namespace Cert.Proof.OutProj

/-- The call and the reference leave the same three arrays, from any arguments. -/
theorem algebraic : Cert.algebraic_Kernel4Ideal_Reference4Ideal := by
  pair_intro
  · run_from Cert.Kernel4Ideal.Value.run_blocks m g
  · run_from Cert.Reference4Ideal.Value.run m' g'
    · rw [Cert.Kernel4Ideal.Out.final_out m c]
      rfl
    · rw [Cert.Kernel4Ideal.Out.final_scaled m c]
      rfl
    · rw [Cert.Kernel4Ideal.Out.final_squares m c]
      rfl

end Cert.Proof.OutProj

end
-- ==== Proof.FinalNorm.lean ====
/- The last normalisation (`Kernel5`): each of its thirty-two row blocks holds the same rows of the reference's
   normalised array. -/
module

public import proofs.«01_k».proof.Defs
public import proofs.«01_k».proof.Proof.Gen.Kernel5Ideal.Value
public import proofs.«01_k».proof.Proof.Gen.Reference5Ideal.Read
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Norm

open Cert.Kernel5Ideal Cert.Kernel5Ideal.Gen Idealize.ShloMosaic Idealize.ShloMosaic.TcCoe Idealize.SL.Sem
open Idealize.ShloMosaic.Pipeline (Dat)
open Cert.Rows
open Cert.Reference5Ideal.Read (val_main_v13 val_main_v13_apply val_main_v12 val_main_v11 val_main_v10 val_main_v9 val_main_v8
  val_main_v7 val_main_v6 val_main_v5 val_main_v4 val_main_v3 val_main_v2 val_main_v1 val_main_v0 val_main_cst val_main_cst_0 val_main_cst_1)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The root of a row's mean square, inverted: what every entry of row `r` is multiplied by. -/
def rstd (x : S4x2048x4096.Idx → Elt Ideal .f32) (r : Fin 8192) : EReal :=
  Ideal.rsqrt (Ideal.div (∑ k, row x r k * row x r k) (Ideal.ofBits .f32 0x45800000#32) + Ideal.ofBits .f32 0x358637BD#32)

/-- The reference at an index: the entry, times its row's `rstd`, times the gain of its column. -/
theorem ref_apply (x : S4x2048x4096.Idx → Elt Ideal .f32) (g : S4096.Idx → Elt Ideal .f32) (r : Fin 8192) (k : Fin 4096) :
    val_main_v13 (F := Ideal) x g (ix2 r k) = row x r k * rstd x r * g (ix1 k) := by
  unfold val_main_v13
  rw [join_apply]
  unfold rstd row
  pointwise [val_main_v12, val_main_v11, val_main_v10, val_main_v9, val_main_v8, val_main_v7, val_main_v6,
    val_main_v5, val_main_v4, val_main_v3, val_main_v2, val_main_v1, val_main_v0, val_main_cst, val_main_cst_0, val_main_cst_1]

/-- Row `a` of the block of the input that point `t` holds. -/
theorem block_x (c : Dev nD) (t : Fin cfg0.N) (a : Fin 256) (k : Fin 4096) (r : Fin 8192)
    (hr : r.val = (grid0.coords t 0).val * 256 + a.val) :
    iblk m c 0 t (ix2 a k) = row (m ((c : Thread nD τ).loc main_arg0)) r k := by
  unfold row
  blk_ext! [iblk, V, idx t] <;> omega

/-- The gain, which every point holds whole. -/
theorem block_g (c : Dev nD) (t : Fin cfg0.N) (k : Fin 4096) :
    iblk m c 1 t (ix2 0 k) = m ((c : Thread nD τ).loc main_arg1) (ix1 k) := by
  blk_ext! [iblk, V, idx t]

/-- What a grid point computes of the two blocks it holds, at an index. -/
theorem pay_apply (x : S256x4096.Idx → Elt Ideal .f32) (g : S1x4096.Idx → Elt Ideal .f32) (a : Fin 256) (k : Fin 4096) :
    k0_pay1 (F := Ideal) x g (ix2 a k) = x (ix2 a k)
      * Ideal.rsqrt (Ideal.div (∑ k, x (ix2 a k) * x (ix2 a k)) (Ideal.ofBits .f32 0x45800000#32) + Ideal.ofBits .f32 0x358637BD#32)
      * g (ix2 0 k) := by
  pointwise [k0_pay1]

/-- The result array after the run is the reference's. -/
theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf (y : S256x4096.Idx) => ?_
  have h0 : (grid0.coords t 0).val < 32 := (grid0.coords t 0).isLt
  obtain ⟨a, k, rfl⟩ : ∃ (a : Fin 256) (k : Fin 4096), y = ix2 a k := ⟨y 0, y 1, by blk_ext⟩
  have ha := a.isLt
  have he : ((cfg0.win 2).blk t).view.emb (ix2 a k)
      = ix2 (⟨(grid0.coords t 0).val * 256 + a.val, by omega⟩ : Fin 8192) k := by
    blk_ext [idx t]
  refine Eq.trans ?_ ((congrArg _ he).trans (ref_apply _ _ _ _)).symm
  blk_simp
  rw [after0_2]
  frame_out
  refine (pay_apply _ _ _ _).trans ?_
  unfold rstd
  simp only [fun k => block_x m c t a k ⟨(grid0.coords t 0).val * 256 + a.val, by omega⟩ rfl, block_g]

end Cert.Kernel5Ideal.Norm

namespace Cert.Proof.FinalNorm

/-- The call and the reference leave the same array, from any arguments. -/
theorem algebraic : Cert.algebraic_Kernel5Ideal_Reference5Ideal := by
  pair_intro
  · run_from Cert.Kernel5Ideal.Value.run_blocks m g
  · run_from Cert.Reference5Ideal.Value.run m' g'
    rw [Cert.Kernel5Ideal.Norm.final m c]
    rfl

end Cert.Proof.FinalNorm

end
-- ==== Proof.Receptance.lean ====
/- The receptance projection of the recurrent mixer (`Kernel6`): what its result array holds, and that the
   reference's product is the same array. -/
module

public import proofs.«01_k».proof.Defs
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Claim

@[expose] public section

set_option maxRecDepth 16384

noncomputable section

namespace Cert.Kernel6Ideal.Recep

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The result array is the reference's. -/
theorem final (c : Dev nD) : (dats m 0 c).arrAt 2 cfg0.N
    = Cert.Reference6Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1]
  rw [Cert.Reference6Ideal.Read.val_main_v1_apply, Cert.Reference6Ideal.Read.val_main_v0_apply]
  refine Fin.sum_fin_congr fun k => ?_
  have h0 : (grid0.coords t 0).val < 8 := (grid0.coords t 0).isLt
  have h1 : (grid0.coords t 1).val < 8 := (grid0.coords t 1).isLt
  congr 1 <;> blk_ext! [iblk, V, idx t] <;> omega

end Cert.Kernel6Ideal.Recep

namespace Cert.Proof.Receptance

theorem algebraic : Cert.algebraic_Kernel6Ideal_Reference6Ideal := by
  pair_intro
  · run_from Cert.Kernel6Ideal.Value.run_blocks m g
  · run_from Cert.Reference6Ideal.Value.run m' g'
    rw [Cert.Kernel6Ideal.Recep.final m c]
    rfl

end Cert.Proof.Receptance
end
-- ==== Proof.Latents.lean ====
/- The attention mixer's first call (`Kernel7`): the normalisation and the projection to the latents, its 64 columns with a
   position spread over 128, each half followed by 32 columns of zeros. The call multiplies a row's product by the row's
   factor AFTER the contraction; the reference normalises the rows first. -/
module

public import proofs.«01_k».proof.Defs
public import proofs.«01_k».proof.Proof.Gen.Kernel7Ideal.Value
public import proofs.«01_k».proof.Proof.Gen.Reference7Ideal.Read
public import proofs.«01_k».proof.Proof.Attention.Host
public import proofs.«01_k».proof.Proof.Rows
public import proofs.«01_k».proof.Proof.Normed
public import Idealize.ShloMosaic.Lib.Pointwise
public import Idealize.ShloMosaic.Lib.Pipeline.ValueKit
public import Idealize.ShloMosaic.Lib.Claim

@[expose] public section

set_option maxRecDepth 16384

noncomputable section

namespace Cert.Latents

open Idealize.ShloMosaic Cert.Rows Cert.Normed

/-- Whether column `j` of the result holds a column of the projection; the others hold zeros. -/
abbrev Kept (j : Fin 1664) : Prop := j.val < 1536 ∨ j.val % 64 < 32

/-- The column of the projection's matrix that column `j` of the result takes. -/
def col (j : Fin 1664) : Fin 1600 :=
  ⟨if j.val < 1536 then j.val else 1536 + (if j.val % 64 < 32 then (j.val - 1536) / 64 * 32 + j.val % 32 else 0), by split_ifs <;> omega⟩

/-- Column `j` of row `r` of the matrix's product with the normalised rows. -/
def proj (x : (⟨3, ![4, 2048, 4096]⟩ : Shape).Idx → EReal) (g : (⟨1, ![4096]⟩ : Shape).Idx → EReal)
    (w : (⟨2, ![4096, 1600]⟩ : Shape).Idx → EReal) (r : Fin 8192) (j : Fin 1600) : EReal :=
  ∑ k, normed (Ideal.ofBits .f32 0x45800000#32) (row x r) (fun k => g (ix1 k)) k * w (ix2 k j)

end Cert.Latents

namespace Cert.Reference7Ideal.Latents
open Cert.Reference7Ideal Cert.Reference7Ideal.Read Idealize.ShloMosaic Cert.Rows Cert.Normed Cert.Latents

variable (x : S4x2048x4096.Idx → Elt Ideal .f32) (g : S4096.Idx → Elt Ideal .f32) (w : S4096x1600.Idx → Elt Ideal .f32)

/-- The reference's product. -/
theorem prod_apply (r : Fin 8192) (j : Fin 1600) : val_main_v14 (F := Ideal) x g w (ix2 r j) = proj x g w r j := by
  have he : idx_main_v14 (ix2 r j) = ix3 ⟨r.val / 2048, by omega⟩ ⟨r.val % 2048, by omega⟩ j := by
    blk_ext <;> omega
  rw [val_main_v14_apply, he]
  unfold proj normed rstd row
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference at an index. -/
theorem ref_apply (r : Fin 8192) (j : Fin 1664) :
    val_main_v20 (F := Ideal) x g w (ix2 r j) = if Kept j then proj x g w r (col j) else (0 : EReal) := by
  rw [← prod_apply]
  have hl' : (col j).val = if j.val < 1536 then j.val else 1536 + (if j.val % 64 < 32 then (j.val - 1536) / 64 * 32 + j.val % 32 else 0) := rfl
  have he : ∀ q : Fin 1600, q.val = (col j).val → val_main_v14 (F := Ideal) x g w (ix2 r q) = val_main_v14 (F := Ideal) x g w (ix2 r (col j)) :=
    fun q hq => congrArg (fun l => val_main_v14 (F := Ideal) x g w (ix2 r l)) (Fin.ext hq)
  pointwise [val_main_v20, val_main_v19, val_main_v18, val_main_v17, val_main_v16, val_main_v15, val_main_cst_2]
  by_cases h1 : j.val < 1536
  · rw [if_pos h1] at hl'
    rw [dif_pos h1, if_pos (Or.inl h1)]
    exact he _ (by dsimp only; omega)
  rw [if_neg h1] at hl'
  rw [dif_neg h1]
  by_cases h2 : j.val - 1536 < 32
  · rw [if_pos (by omega)] at hl'
    rw [dif_pos h2, if_pos (Or.inr (by omega))]
    exact he _ (by dsimp only; omega)
  rw [dif_neg h2]
  by_cases h3 : j.val - 1536 - 32 < 32
  · rw [dif_pos h3, if_neg (by omega)]
  rw [dif_neg h3]
  by_cases h4 : j.val - 1536 - 32 - 32 < 32
  · rw [if_pos (by omega)] at hl'
    rw [dif_pos h4, if_pos (Or.inr (by omega))]
    exact he _ (by dsimp only; omega)
  · rw [dif_neg h4, if_neg (by omega)]

end Cert.Reference7Ideal.Latents

namespace Cert.Kernel7Ideal.Latents

open Cert.Kernel7Ideal Cert.Kernel7Ideal.Gen Idealize.ShloMosaic Idealize.ShloMosaic.TcCoe Idealize.SL.Sem
open Idealize.ShloMosaic.Pipeline (Dat)
open Cert.Rows Cert.Scalars Cert.Normed Cert.Latents
open Cert.KernelIdeal.Attention (cols_apply first128 toNat_word one_bits zero_bits)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0] :=
  (by decide +kernel : ∀ t : Fin grid0.N, _)

/-- The three arguments as launched. -/
abbrev argX (c : Dev nD) : S4x2048x4096.Idx → Elt Ideal .f32 := m ((c : Thread nD τ).loc main_arg0)
abbrev argG (c : Dev nD) : S4096.Idx → Elt Ideal .f32 := m ((c : Thread nD τ).loc main_arg1)
abbrev argW (c : Dev nD) : S4096x1600.Idx → Elt Ideal .f32 := m ((c : Thread nD τ).loc main_arg2)

/-- The tables of the last 128 columns: the column each takes of the matrix, and whether it keeps it. -/
theorem lit1_eq : ∀ l : Fin 128, lit1 l = if l.val % 64 < 32 then 0x3F800000#32 else 0 := by decide +kernel
theorem lit0_eq : ∀ l : Fin 128, lit0 l = BitVec.ofNat 32 (1536 + (if l.val % 64 < 32 then l.val / 64 * 32 + l.val % 32 else 0)) := by decide +kernel

/-- The matrix's first columns are the argument's. -/
theorem V_w_low (c : Dev nD) (k : Fin 4096) (j : Fin 1536) :
    (V m c main_v79 : S4096x1664.Idx → Elt Ideal .bf16) (ix2 k ⟨j.val, by omega⟩) = argW m c (ix2 k ⟨j.val, by omega⟩) := by
  unfold V
  after_results
  pointwise

/-- Its last 128 are selected and masked. -/
theorem V_w_high (c : Dev nD) (k : Fin 4096) (l : Fin 128) (q : Fin 1600) (hq : (lit0 l).toInt.toNat = q.val) :
    (V m c main_v79 : S4096x1664.Idx → Elt Ideal .bf16) (ix2 k ⟨1536 + l.val, by omega⟩) = argW m c (ix2 k q) * Ideal.ofBits .f32 (lit1 l) := by
  unfold V
  after_results
  pointwise
  refine congrArg₂ (· * ·) ((cols_apply _ _ _ k l q ?_).trans rfl) ?_
  · pointwise
    exact (congrArg (fun x : Fin 128 => (lit0 x).toInt.toNat) (first128 l)).trans hq
  · exact congrArg (fun x : Fin 128 => Ideal.ofBits .f32 (lit1 x)) (first128 l)

/-- The matrix the call takes, at an index. -/
theorem V_w (c : Dev nD) (k : Fin 4096) (j : Fin 1664) : (V m c main_v79 : S4096x1664.Idx → Elt Ideal .bf16) (ix2 k j)
    = argW m c (ix2 k (col j)) * if Kept j then (1 : EReal) else 0 := by
  by_cases h : j.val < 1536
  · rw [if_pos (Or.inl h), mul_one]
    refine (V_w_low m c k ⟨j.val, h⟩).trans (congrArg (fun q => argW m c (ix2 k q)) (Fin.ext ?_))
    unfold col
    dsimp only
    rw [if_pos h]
  · have hj := j.isLt
    have hcol : (col j).val = 1536 + (if j.val % 64 < 32 then (j.val - 1536) / 64 * 32 + j.val % 32 else 0) := if_neg h
    refine (congrArg (fun q => (V m c main_v79 : S4096x1664.Idx → Elt Ideal .bf16) (ix2 k q)) (Fin.ext ?_)).trans
      ((V_w_high m c k ⟨j.val - 1536, by omega⟩ (col j) ?_).trans (congrArg (argW m c (ix2 k (col j)) * ·) ?_))
    · dsimp only
      omega
    · rw [lit0_eq, hcol, toNat_word (by split_ifs <;> omega)]
      dsimp only
      split_ifs <;> omega
    · rw [lit1_eq]
      dsimp only
      by_cases hk : j.val % 64 < 32
      · rw [if_pos (by omega), if_pos (Or.inr hk), one_bits]
      · rw [if_neg (by omega), if_neg (by omega), zero_bits]

/-- The host's partial sums of squares: lane by lane over a row's 32 slices. -/
theorem V_ss (c : Dev nD) (r : Fin 8192) (l : Fin 128) : (V m c main_v68 : S8192x128.Idx → Elt Ideal .f32) (ix2 r l)
    = (∑ s : Fin 32, row (argX m c) r (lane s l) * row (argX m c) r (lane s l) : EReal) := by
  simp only [Fin.sum_univ_castSucc, Fin.sum_univ_zero, zero_add]
  unfold V
  after_results
  pointwise
  unfold row lane
  simp [Nat.add_comm]

/-- The host's operand: every entry times its column's gain. -/
theorem V_x (c : Dev nD) (r : Fin 8192) (k : Fin 4096) : (V m c main_v4 : S8192x4096.Idx → Elt Ideal .bf16) (ix2 r k)
    = row (argX m c) r k * argG m c (ix1 k) := by
  unfold V row
  after_results
  pointwise

/-- What a grid point computes of the blocks it holds, at an index: the contraction is scaled by the row's factor after it
    is done. -/
theorem pay_apply (xb : S512x4096.Idx → Elt Ideal .bf16) (wb : S4096x1664.Idx → Elt Ideal .bf16) (ss : S512x128.Idx → Elt Ideal .f32)
    (a : Fin 512) (b : Fin 1664) :
    k0_pay1 (F := Ideal) xb wb ss (ix2 a b) = (∑ k, xb (ix2 a k) * wb (ix2 k b) : EReal) * factor (fun l => ss (ix2 a l)) := by
  unfold factor
  pointwise [k0_pay1]

section Blocks

variable (c : Dev nD) (t : Fin cfg0.N)

theorem block_x (a : Fin 512) (r : Fin 8192) (hr : r.val = (grid0.coords t 0).val * 512 + a.val) (k : Fin 4096) :
    iblk m c 0 t (ix2 a k) = row (argX m c) r k * argG m c (ix1 k) := by
  rw [← V_x]
  blk_ext [iblk, idx t]

theorem block_w (k : Fin 4096) (j : Fin 1664) : iblk m c 1 t (ix2 k j) = argW m c (ix2 k (col j)) * if Kept j then (1 : EReal) else 0 := by
  rw [← V_w]
  blk_ext [iblk, idx t]

theorem block_ss (a : Fin 512) (r : Fin 8192) (hr : r.val = (grid0.coords t 0).val * 512 + a.val) (l : Fin 128) :
    iblk m c 2 t (ix2 a l) = (∑ s : Fin 32, row (argX m c) r (lane s l) * row (argX m c) r (lane s l) : EReal) := by
  rw [← V_ss]
  blk_ext [iblk, idx t]

end Blocks

/-- The result array is the reference's. -/
theorem final (c : Dev nD) : (dats m 0 c).arrAt 3 cfg0.N
    = Cert.Reference7Ideal.Read.val_main_v20 (F := Ideal) (argX m c) (argG m c) (argW m c) := by
  refine (dats m 0 c).arrAt_eq_of_covers 3 _ (by decide +kernel) fun t hf (y : S512x1664.Idx) => ?_
  have h0 : (grid0.coords t 0).val < 16 := (grid0.coords t 0).isLt
  obtain ⟨a, b, rfl⟩ : ∃ (a : Fin 512) (b : Fin 1664), y = ix2 a b := ⟨y 0, y 1, by blk_ext⟩
  have ha := a.isLt
  have hb := b.isLt
  have he : ((cfg0.win 3).blk t).view.emb (ix2 a b) = ix2 (⟨(grid0.coords t 0).val * 512 + a.val, by omega⟩ : Fin 8192) b := by
    blk_ext [idx t]
  refine Eq.trans ?_ ((congrArg _ he).trans (Cert.Reference7Ideal.Latents.ref_apply _ _ _ _ _)).symm
  blk_simp
  rw [after0_3]
  frame_out
  refine (pay_apply _ _ _ _ _).trans ?_
  simp only [fun k => block_x m c t a ⟨(grid0.coords t 0).val * 512 + a.val, by omega⟩ rfl k, fun k => block_w m c t k b,
    fun l => block_ss m c t a ⟨(grid0.coords t 0).val * 512 + a.val, by omega⟩ rfl l]
  split_ifs
  · simp only [mul_one]
    exact scaled _ (fun k => argG m c (ix1 k)) (fun k => argW m c (ix2 k (col b)))
  · simp only [mul_zero, Finset.sum_const_zero, zero_mul]

end Cert.Kernel7Ideal.Latents

namespace Cert.Proof.Latents

/-- The call and the reference leave the same array, from any arguments. -/
theorem algebraic : Cert.algebraic_Kernel7Ideal_Reference7Ideal := by
  pair_intro
  · run_from Cert.Kernel7Ideal.Value.run_blocks m g
  · run_from Cert.Reference7Ideal.Value.run m' g'
    rw [Cert.Kernel7Ideal.Latents.final m c]
    refine (Cert.Reference7Ideal.Read.val_main_v20_eq _ _ _).trans ?_
    obtain ⟨h0, h1, h2⟩ := hagree c
    rw [h2]

end Cert.Proof.Latents
end
-- ==== Proof.QueryTables.lean ====
/- The two tables of the queries' projection (`Kernel8`): the columns it selects of its matrix, and which it keeps. -/
module

public import proofs.«01_k».proof.Proof.Gen.Kernel8Ideal.Value

@[expose] public section

set_option maxRecDepth 16384

namespace Cert.Kernel8Ideal.Queries

open Cert.Kernel8Ideal

theorem lit1_eq : ∀ l : Fin 8192, lit1 l = if l.val % 256 < 128 ∨ l.val % 64 < 32 then 0x3F800000#32 else 0 := by decide +kernel
theorem lit0_eq : ∀ l : Fin 8192, lit0 l = BitVec.ofNat 32 (192 * (l.val / 256) + (if l.val % 256 < 128 then l.val % 256 else 128 + (if l.val % 64 < 32 then l.val % 128 / 64 * 32 + l.val % 32 else 0))) := by decide +kernel

end Cert.Kernel8Ideal.Queries
-- ==== Proof.Queries.lean ====
/- The queries' projection of the attention mixer (`Kernel8`): the normalised latents times the matrix with every head's
   64 columns with a position spread over 128, each half followed by 32 columns of zeros. -/
module

public import proofs.«01_k».proof.Defs
public import proofs.«01_k».proof.Proof.Gen.Kernel8Ideal.Value
public import proofs.«01_k».proof.Proof.Gen.Reference8Ideal.Read
public import proofs.«01_k».proof.Proof.Attention.Host
public import proofs.«01_k».proof.Proof.QueryTables
public import proofs.«01_k».proof.Proof.Rows
public import proofs.«01_k».proof.Proof.Normed
public import Idealize.ShloMosaic.Lib.Pointwise
public import Idealize.ShloMosaic.Lib.Pipeline.ValueKit
public import Idealize.ShloMosaic.Lib.Claim

@[expose] public section

set_option maxRecDepth 16384

noncomputable section

namespace Cert.Queries

open Idealize.ShloMosaic Cert.Rows Cert.Normed

/-- Whether column `j` of the result holds a column of the projection; the others hold zeros. -/
abbrev Kept (j : Fin 8192) : Prop := j.val % 256 < 128 ∨ j.val % 64 < 32

/-- The column of the projection's matrix that column `j` of the result takes. -/
def col (j : Fin 8192) : Fin 6144 :=
  ⟨192 * (j.val / 256) + (if j.val % 256 < 128 then j.val % 256 else 128 + (if j.val % 64 < 32 then j.val % 128 / 64 * 32 + j.val % 32 else 0)),
    by split_ifs <;> omega⟩

/-- The latents a row's queries are projected from. -/
def lats (x : (⟨3, ![4, 2048, 1600]⟩ : Shape).Idx → EReal) (r : Fin 8192) (k : Fin 1024) : EReal := row x r ⟨k.val, by omega⟩

/-- Column `j` of row `r` of the matrix's product with the normalised latents. -/
def proj (x : (⟨3, ![4, 2048, 1600]⟩ : Shape).Idx → EReal) (g : (⟨1, ![1024]⟩ : Shape).Idx → EReal)
    (w : (⟨2, ![1024, 6144]⟩ : Shape).Idx → EReal) (r : Fin 8192) (j : Fin 6144) : EReal :=
  ∑ k, normed (Ideal.ofBits .f32 0x44800000#32) (lats x r) (fun k => g (ix1 k)) k * w (ix2 k j)

end Cert.Queries

namespace Cert.Reference8Ideal.Queries
open Cert.Reference8Ideal Cert.Reference8Ideal.Read Idealize.ShloMosaic Cert.Rows Cert.Normed Cert.Queries

variable (x : S4x2048x1600.Idx → Elt Ideal .f32) (g : S1024.Idx → Elt Ideal .f32) (w : S1024x6144.Idx → Elt Ideal .f32)

/-- The reference's product, its heads apart. -/
theorem heads_apply (r : Fin 8192) (h : Fin 32) (l : Fin 192) :
    val_main_v15 (F := Ideal) x g w (ix3 r h l) = proj x g w r ⟨192 * h.val + l.val, by omega⟩ := by
  have he : idx_main_v15 (ix3 r h l) = ix3 ⟨r.val / 2048, by omega⟩ ⟨r.val % 2048, by omega⟩ ⟨192 * h.val + l.val, by omega⟩ := by
    blk_ext <;> omega
  rw [val_main_v15_apply, he]
  unfold proj normed rstd lats row
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A head's 256 columns in the reference. -/
theorem lanes_apply (r : Fin 8192) (h : Fin 32) (l : Fin 256) (l' : Fin 192)
    (hl' : l'.val = if l.val < 128 then l.val else 128 + (l.val % 128 / 64 * 32 + l.val % 32)) :
    val_main_v21 (F := Ideal) x g w (ix3 r h l)
      = if l.val < 128 ∨ l.val % 64 < 32 then val_main_v15 (F := Ideal) x g w (ix3 r h l') else (0 : EReal) := by
  pointwise [val_main_v21, val_main_v20, val_main_v19, val_main_v18, val_main_v17, val_main_v16, val_main_cst_2]
  have he : ∀ q : Fin 192, q.val = l'.val → val_main_v15 (F := Ideal) x g w (ix3 r h q) = val_main_v15 (F := Ideal) x g w (ix3 r h l') :=
    fun q hq => congrArg (fun l => val_main_v15 (F := Ideal) x g w (ix3 r h l)) (Fin.ext hq)
  by_cases h1 : l.val < 128
  · rw [if_pos h1] at hl'
    rw [dif_pos h1, if_pos (Or.inl h1)]
    exact he _ (by dsimp only; omega)
  rw [if_neg h1] at hl'
  rw [dif_neg h1]
  by_cases h2 : l.val - 128 < 32
  · rw [dif_pos h2, if_pos (Or.inr (by omega))]
    exact he _ (by dsimp only; omega)
  rw [dif_neg h2]
  by_cases h3 : l.val - 128 - 32 < 32
  · rw [dif_pos h3, if_neg (by omega)]
  rw [dif_neg h3]
  by_cases h4 : l.val - 128 - 32 - 32 < 32
  · rw [dif_pos h4, if_pos (Or.inr (by omega))]
    exact he _ (by dsimp only; omega)
  · rw [dif_neg h4, if_neg (by omega)]

/-- The reference at an index. -/
theorem ref_apply (r j : Fin 8192) : val_main_v22 (F := Ideal) x g w (ix2 r j) = if Kept j then proj x g w r (col j) else (0 : EReal) := by
  have he : idx_main_v22 (ix2 r j) = ix3 r ⟨j.val / 256, by omega⟩ ⟨j.val % 256, by omega⟩ := by
    blk_ext <;> omega
  rw [val_main_v22_apply, he, lanes_apply x g w r _ _
    ⟨if j.val % 256 < 128 then j.val % 256 else 128 + (j.val % 256 % 128 / 64 * 32 + j.val % 256 % 32), by split_ifs <;> omega⟩ rfl,
    heads_apply]
  by_cases hj : Kept j
  · rw [if_pos hj, if_pos (by dsimp only; omega)]
    congr 1
    refine Fin.ext ?_
    unfold col
    dsimp only
    split_ifs <;> omega
  · rw [if_neg hj, if_neg (by dsimp only; omega)]

end Cert.Reference8Ideal.Queries

namespace Cert.Kernel8Ideal.Queries

open Cert.Kernel8Ideal Cert.Kernel8Ideal.Gen Idealize.ShloMosaic Idealize.ShloMosaic.TcCoe Idealize.SL.Sem
open Idealize.ShloMosaic.Pipeline (Dat)
open Cert.Rows Cert.Normed Cert.Queries
open Cert.KernelIdeal.Attention (cols_apply first8192 toNat_word one_bits zero_bits)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The three arguments as launched. -/
abbrev argX (c : Dev nD) : S4x2048x1600.Idx → Elt Ideal .f32 := m ((c : Thread nD τ).loc main_arg0)
abbrev argG (c : Dev nD) : S1024.Idx → Elt Ideal .f32 := m ((c : Thread nD τ).loc main_arg1)
abbrev argW (c : Dev nD) : S1024x6144.Idx → Elt Ideal .f32 := m ((c : Thread nD τ).loc main_arg2)

/-- The number in the table is the column. -/
theorem lit0_col (j : Fin 8192) : (lit0 j).toInt.toNat = (col j).val := by
  have h : (col j).val < 2 ^ 31 := lt_trans (col j).isLt (by norm_num)
  rw [lit0_eq]
  exact toNat_word h

/-- The matrix's columns selected and masked. -/
theorem V_w (c : Dev nD) (k : Fin 1024) (j : Fin 8192) : (V m c main_v8 : S1024x8192.Idx → Elt Ideal .bf16) (ix2 k j)
    = argW m c (ix2 k (col j)) * if Kept j then (1 : EReal) else 0 := by
  have hm : (if Kept j then (1 : EReal) else 0) = Ideal.ofBits .f32 (lit1 j) := by
    rw [lit1_eq]
    split_ifs
    · exact one_bits.symm
    · exact zero_bits.symm
  rw [hm]
  unfold V
  after_results
  pointwise
  refine congrArg₂ (· * ·) ((cols_apply _ _ _ k j (col j) ?_).trans rfl) ?_
  · pointwise
    exact (congrArg (fun x : Fin 8192 => (lit0 x).toInt.toNat) (first8192 j)).trans (lit0_col j)
  · exact congrArg (fun x : Fin 8192 => Ideal.ofBits .f32 (lit1 x)) (first8192 j)

/-- The normalised latents. -/
theorem V_x (c : Dev nD) (r : Fin 8192) (k : Fin 1024) : (V m c main_v24 : S8192x1024.Idx → Elt Ideal .bf16) (ix2 r k)
    = normed (Ideal.ofBits .f32 0x44800000#32) (lats (argX m c) r) (fun k => argG m c (ix1 k)) k := by
  unfold V
  after_results
  unfold normed rstd lats row
  pointwise

/-- What a grid point computes of the blocks it holds, at an index. -/
theorem pay_apply (xb : S1024x1024.Idx → Elt Ideal .bf16) (wb : S1024x1024.Idx → Elt Ideal .bf16) (a b : Fin 1024) :
    k0_pay1 (F := Ideal) xb wb (ix2 a b) = (∑ k, xb (ix2 a k) * wb (ix2 k b) : EReal) := by
  pointwise [k0_pay1]

theorem block_x (c : Dev nD) (t : Fin cfg0.N) (a : Fin 1024) (r : Fin 8192) (hr : r.val = (grid0.coords t 0).val * 1024 + a.val) (k : Fin 1024) :
    iblk m c 0 t (ix2 a k) = normed (Ideal.ofBits .f32 0x44800000#32) (lats (argX m c) r) (fun k => argG m c (ix1 k)) k := by
  rw [← V_x]
  blk_ext [iblk, idx t]

theorem block_w (c : Dev nD) (t : Fin cfg0.N) (b : Fin 1024) (j : Fin 8192) (hj : j.val = (grid0.coords t 1).val * 1024 + b.val) (k : Fin 1024) :
    iblk m c 1 t (ix2 k b) = argW m c (ix2 k (col j)) * if Kept j then (1 : EReal) else 0 := by
  rw [← V_w]
  blk_ext [iblk, idx t]

/-- The result array is the reference's. -/
theorem final (c : Dev nD) : (dats m 0 c).arrAt 2 cfg0.N
    = Cert.Reference8Ideal.Read.val_main_v22 (F := Ideal) (argX m c) (argG m c) (argW m c) := by
  refine (dats m 0 c).arrAt_eq_of_covers 2 _ (by decide +kernel) fun t hf (y : S1024x1024.Idx) => ?_
  have h0 : (grid0.coords t 0).val < 8 := (grid0.coords t 0).isLt
  have h1 : (grid0.coords t 1).val < 8 := (grid0.coords t 1).isLt
  obtain ⟨a, b, rfl⟩ : ∃ (a : Fin 1024) (b : Fin 1024), y = ix2 a b := ⟨y 0, y 1, by blk_ext⟩
  have ha := a.isLt
  have hb := b.isLt
  have he : ((cfg0.win 2).blk t).view.emb (ix2 a b)
      = ix2 (⟨(grid0.coords t 0).val * 1024 + a.val, by omega⟩ : Fin 8192) (⟨(grid0.coords t 1).val * 1024 + b.val, by omega⟩ : Fin 8192) := by
    blk_ext [idx t]
  refine Eq.trans ?_ ((congrArg _ he).trans (Cert.Reference8Ideal.Queries.ref_apply _ _ _ _ _)).symm
  blk_simp
  rw [after0_2]
  frame_out
  refine (pay_apply _ _ _ _).trans ?_
  unfold proj
  simp only [fun k => block_x m c t a ⟨(grid0.coords t 0).val * 1024 + a.val, by omega⟩ rfl k,
    fun k => block_w m c t b ⟨(grid0.coords t 1).val * 1024 + b.val, by omega⟩ rfl k]
  split_ifs
  · simp only [mul_one]
  · simp only [mul_zero, Finset.sum_const_zero]

end Cert.Kernel8Ideal.Queries

namespace Cert.Proof.Queries

/-- The call and the reference leave the same array, from any arguments. -/
theorem algebraic : Cert.algebraic_Kernel8Ideal_Reference8Ideal := by
  pair_intro
  · run_from Cert.Kernel8Ideal.Value.run_blocks m g
  · run_from Cert.Reference8Ideal.Value.run m' g'
    rw [Cert.Kernel8Ideal.Queries.final m c]
    refine (Cert.Reference8Ideal.Read.val_main_v22_eq m' c).trans ?_
    obtain ⟨h0, h1, h2⟩ := hagree c
    rw [h0, h1, h2]

end Cert.Proof.Queries
end
-- ==== Proof.KeysValues.lean ====
/- The keys' and values' projection of the attention mixer (`Kernel9`): the normalised latents times the matrix with the
   heads' columns regrouped, all the heads' keys first and then all their values. -/
module

public import proofs.«01_k».proof.Defs
public import proofs.«01_k».proof.Proof.Gen.Kernel9Ideal.Value
public import proofs.«01_k».proof.Proof.Gen.Reference9Ideal.Read
public import proofs.«01_k».proof.Proof.Rows
public import proofs.«01_k».proof.Proof.Normed
public import Idealize.ShloMosaic.Lib.Pointwise
public import Idealize.ShloMosaic.Lib.Pipeline.ValueKit
public import Idealize.ShloMosaic.Lib.Claim

@[expose] public section

set_option maxRecDepth 16384

noncomputable section

namespace Cert.KeysValues

open Idealize.ShloMosaic Cert.Rows Cert.Normed

/-- The column of the projection's matrix that column `j` of the result takes: lane `j % 128` of a head's keys in the first
    half, of its values in the second. -/
def col (j : Fin 8192) : Fin 8192 := ⟨256 * (j.val % 4096 / 128) + 128 * (j.val / 4096) + j.val % 128, by omega⟩

/-- The latents a row's keys and values are projected from. -/
def lats (x : (⟨3, ![4, 2048, 1600]⟩ : Shape).Idx → EReal) (r : Fin 8192) (k : Fin 512) : EReal := row x r ⟨1024 + k.val, by omega⟩

/-- Column `j` of row `r` of the matrix's product with the normalised latents. -/
def proj (x : (⟨3, ![4, 2048, 1600]⟩ : Shape).Idx → EReal) (g : (⟨1, ![512]⟩ : Shape).Idx → EReal)
    (w : (⟨2, ![512, 8192]⟩ : Shape).Idx → EReal) (r j : Fin 8192) : EReal :=
  ∑ k, normed (Ideal.ofBits .f32 0x44000000#32) (lats x r) (fun k => g (ix1 k)) k * w (ix2 k j)

end Cert.KeysValues

namespace Cert.Reference9Ideal.KeysValues
open Cert.Reference9Ideal Cert.Reference9Ideal.Read Idealize.ShloMosaic Cert.Rows Cert.Normed Cert.KeysValues

variable (x : S4x2048x1600.Idx → Elt Ideal .f32) (g : S512.Idx → Elt Ideal .f32) (w : S512x8192.Idx → Elt Ideal .f32)

/-- The reference's product, its heads apart. -/
theorem heads_apply (r : Fin 8192) (h : Fin 32) (l : Fin 256) :
    val_main_v15 (F := Ideal) x g w (ix3 r h l) = proj x g w r ⟨256 * h.val + l.val, by omega⟩ := by
  have he : idx_main_v15 (ix3 r h l) = ix3 ⟨r.val / 2048, by omega⟩ ⟨r.val % 2048, by omega⟩ ⟨256 * h.val + l.val, by omega⟩ := by
    blk_ext <;> omega
  rw [val_main_v15_apply, he]
  unfold proj normed rstd lats row
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's keys of head `h`. -/
theorem ref_key (r : Fin 8192) (h : Fin 32) (d : Fin 128) : val_main_v21 (F := Ideal) x g w (ix2 r ⟨128 * h.val + d.val, by omega⟩)
    = proj x g w r ⟨256 * h.val + d.val, by omega⟩ := by
  refine Eq.trans ?_ (heads_apply x g w r h ⟨d.val, by omega⟩)
  pointwise [val_main_v21, val_main_v20, val_main_v18, val_main_v16]
  exact dif_pos (by omega)

/-- The reference's values of head `h`. -/
theorem ref_value (r : Fin 8192) (h : Fin 32) (d : Fin 128) : val_main_v21 (F := Ideal) x g w (ix2 r ⟨4096 + 128 * h.val + d.val, by omega⟩)
    = proj x g w r ⟨256 * h.val + (128 + d.val), by omega⟩ := by
  refine Eq.trans ?_ (heads_apply x g w r h ⟨128 + d.val, by omega⟩)
  pointwise [val_main_v21, val_main_v20, val_main_v19, val_main_v17]
  rw [dif_neg (by omega)]
  congr 1
  blk_ext <;> omega

/-- The reference at an index. -/
theorem ref_apply (r j : Fin 8192) : val_main_v21 (F := Ideal) x g w (ix2 r j) = proj x g w r (col j) := by
  by_cases hj : j.val < 4096
  · refine Eq.trans (congrArg (fun j => val_main_v21 (F := Ideal) x g w (ix2 r j)) (Fin.ext ?_))
      ((ref_key x g w r ⟨j.val / 128, by omega⟩ ⟨j.val % 128, by omega⟩).trans (congrArg (proj x g w r) (Fin.ext ?_)))
    · dsimp only; omega
    · unfold col; dsimp only; omega
  · refine Eq.trans (congrArg (fun j => val_main_v21 (F := Ideal) x g w (ix2 r j)) (Fin.ext ?_))
      ((ref_value x g w r ⟨j.val / 128 - 32, by omega⟩ ⟨j.val % 128, by omega⟩).trans (congrArg (proj x g w r) (Fin.ext ?_)))
    · dsimp only; omega
    · unfold col; dsimp only; omega

end Cert.Reference9Ideal.KeysValues

namespace Cert.Kernel9Ideal.KeysValues

open Cert.Kernel9Ideal Cert.Kernel9Ideal.Gen Idealize.ShloMosaic Idealize.ShloMosaic.TcCoe Idealize.SL.Sem
open Idealize.ShloMosaic.Pipeline (Dat)
open Cert.Rows Cert.Normed Cert.KeysValues

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The three arguments as launched. -/
abbrev argX (c : Dev nD) : S4x2048x1600.Idx → Elt Ideal .f32 := m ((c : Thread nD τ).loc main_arg0)
abbrev argG (c : Dev nD) : S512.Idx → Elt Ideal .f32 := m ((c : Thread nD τ).loc main_arg1)
abbrev argW (c : Dev nD) : S512x8192.Idx → Elt Ideal .f32 := m ((c : Thread nD τ).loc main_arg2)

/-- The matrix with its columns regrouped. -/
theorem V_w (c : Dev nD) (k : Fin 512) (j : Fin 8192) : (V m c main_v3 : S512x8192.Idx → Elt Ideal .bf16) (ix2 k j) = argW m c (ix2 k (col j)) := by
  unfold V
  after_results
  unfold col
  pointwise
  congr 1
  blk_ext <;> omega

/-- The normalised latents. -/
theorem V_x (c : Dev nD) (r : Fin 8192) (k : Fin 512) : (V m c main_v19 : S8192x512.Idx → Elt Ideal .bf16) (ix2 r k)
    = normed (Ideal.ofBits .f32 0x44000000#32) (lats (argX m c) r) (fun k => argG m c (ix1 k)) k := by
  unfold V
  after_results
  unfold normed rstd lats row
  pointwise

/-- What a grid point computes of the blocks it holds, at an index. -/
theorem pay_apply (xb : S1024x512.Idx → Elt Ideal .bf16) (wb : S512x1024.Idx → Elt Ideal .bf16) (a b : Fin 1024) :
    k0_pay1 (F := Ideal) xb wb (ix2 a b) = (∑ k, xb (ix2 a k) * wb (ix2 k b) : EReal) := by
  pointwise [k0_pay1]

theorem block_x (c : Dev nD) (t : Fin cfg0.N) (a : Fin 1024) (r : Fin 8192) (hr : r.val = (grid0.coords t 0).val * 1024 + a.val) (k : Fin 512) :
    iblk m c 0 t (ix2 a k) = normed (Ideal.ofBits .f32 0x44000000#32) (lats (argX m c) r) (fun k => argG m c (ix1 k)) k := by
  rw [← V_x]
  blk_ext [iblk, idx t]

theorem block_w (c : Dev nD) (t : Fin cfg0.N) (b : Fin 1024) (j : Fin 8192) (hj : j.val = (grid0.coords t 1).val * 1024 + b.val) (k : Fin 512) :
    iblk m c 1 t (ix2 k b) = argW m c (ix2 k (col j)) := by
  rw [← V_w]
  blk_ext [iblk, idx t]

/-- The result array is the reference's. -/
theorem final (c : Dev nD) : (dats m 0 c).arrAt 2 cfg0.N
    = Cert.Reference9Ideal.Read.val_main_v21 (F := Ideal) (argX m c) (argG m c) (argW m c) := by
  refine (dats m 0 c).arrAt_eq_of_covers 2 _ (by decide +kernel) fun t hf (y : S1024x1024.Idx) => ?_
  have h0 : (grid0.coords t 0).val < 8 := (grid0.coords t 0).isLt
  have h1 : (grid0.coords t 1).val < 8 := (grid0.coords t 1).isLt
  obtain ⟨a, b, rfl⟩ : ∃ (a : Fin 1024) (b : Fin 1024), y = ix2 a b := ⟨y 0, y 1, by blk_ext⟩
  have ha := a.isLt
  have hb := b.isLt
  have he : ((cfg0.win 2).blk t).view.emb (ix2 a b)
      = ix2 (⟨(grid0.coords t 0).val * 1024 + a.val, by omega⟩ : Fin 8192) (⟨(grid0.coords t 1).val * 1024 + b.val, by omega⟩ : Fin 8192) := by
    blk_ext [idx t]
  refine Eq.trans ?_ ((congrArg _ he).trans (Cert.Reference9Ideal.KeysValues.ref_apply _ _ _ _ _)).symm
  blk_simp
  rw [after0_2]
  frame_out
  refine (pay_apply _ _ _ _).trans ?_
  unfold proj
  simp only [fun k => block_x m c t a ⟨(grid0.coords t 0).val * 1024 + a.val, by omega⟩ rfl k,
    fun k => block_w m c t b ⟨(grid0.coords t 1).val * 1024 + b.val, by omega⟩ rfl k]

end Cert.Kernel9Ideal.KeysValues

namespace Cert.Proof.KeysValues

/-- The call and the reference leave the same array, from any arguments. -/
theorem algebraic : Cert.algebraic_Kernel9Ideal_Reference9Ideal := by
  pair_intro
  · run_from Cert.Kernel9Ideal.Value.run_blocks m g
  · run_from Cert.Reference9Ideal.Value.run m' g'
    rw [Cert.Kernel9Ideal.KeysValues.final m c]
    refine (Cert.Reference9Ideal.Read.val_main_v21_eq _ _ _).trans ?_
    rw [(hagree c).2.2]

end Cert.Proof.KeysValues
end
-- ==== Proof.Heads.lean ====
/- What the sparse attention's projections have in common: a row normalised and multiplied into a matrix, its columns
   taken as heads of 128. -/
module

public import proofs.«01_k».proof.Proof.Normed
public import proofs.«01_k».proof.Proof.Rows

@[expose] public section

noncomputable section

namespace Cert.Heads

open Idealize.ShloMosaic Cert.Normed Cert.Rows Cert.Scalars

/-- Column `j` of the product of row `s` of sequence `b`, normalised, with the matrix. -/
def proj (x : (⟨3, ![4, 2048, 4096]⟩ : Shape).Idx → EReal) (g : (⟨1, ![4096]⟩ : Shape).Idx → EReal)
    (w : (⟨2, ![4096, 10400]⟩ : Shape).Idx → EReal) (b : Fin 4) (s : Fin 2048) (j : Fin 10400) : EReal :=
  ∑ k, normed (Ideal.ofBits .f32 0x45800000#32) (fun k => x (ix3 b s k)) (fun k => g (ix1 k)) k * w (ix2 k j)

/-- The product as a call computes it, the row's factor taken after the contraction. -/
theorem proj_eq (x : (⟨3, ![4, 2048, 4096]⟩ : Shape).Idx → EReal) (g : (⟨1, ![4096]⟩ : Shape).Idx → EReal)
    (w : (⟨2, ![4096, 10400]⟩ : Shape).Idx → EReal) (b : Fin 4) (s : Fin 2048) (r : Fin 8192) (hr : r.val = 2048 * b.val + s.val)
    (j : Fin 10400) :
    (∑ k, row x r k * g (ix1 k) * w (ix2 k j)) * factor (fun l => ∑ s : Fin 32, row x r (lane s l) * row x r (lane s l)) = proj x g w b s j := by
  have he : row x r = fun k => x (ix3 b s k) := by
    funext k
    unfold row
    congr 1
    blk_ext <;> omega
  rw [he]
  exact scaled _ (fun k => g (ix1 k)) _

end Cert.Heads

end
-- ==== Proof.SparseQueries.lean ====
/- The sparse attention's queries (`Kernel10`): the normalised rows times the first 4096 columns of the mixer's matrix,
   each head of 128 lanes turned by its row's position and scaled, the heads' axis before the rows'. -/
module

public import proofs.«01_k».proof.Defs
public import proofs.«01_k».proof.Proof.Gen.Kernel10Ideal.Value
public import proofs.«01_k».proof.Proof.Gen.Reference10Ideal.Read
public import proofs.«01_k».proof.Proof.Attention.Host
public import proofs.«01_k».proof.Proof.Heads
public import Idealize.ShloMosaic.Lib.Pointwise
public import Idealize.ShloMosaic.Lib.Pipeline.ValueKit
public import Idealize.ShloMosaic.Lib.Claim

@[expose] public section

set_option maxRecDepth 16384

noncomputable section

namespace Cert.SparseQueries

open Idealize.ShloMosaic

/-- The exponent of the `j`-th rotation frequency, `-2j/128`. -/
def freq (j : Fin 64) : EReal := ((-(j.val : ℝ) / 64 : ℝ) : EReal)

/-- The angle by which the `j`-th pair of lanes turns at row `s` of sequence `b`. -/
def angle (P : (⟨2, ![4, 2048]⟩ : Shape).Idx → BitVec 32) (b : Fin 4) (s : Fin 2048) (j : Fin 64) : EReal :=
  FloatOps.sitofp (F := Ideal) .f32 (P (ix2 b s)) * Ideal.pow (Ideal.ofBits .f32 0x461C4000#32) (freq j)

/-- A head's 128 lanes, each pair `(j, j + 64)` turned by its angle. -/
def turned (x : Fin 128 → EReal) (θ : Fin 64 → EReal) (e : Fin 128) : EReal :=
  if h : e.val < 64 then x e * Ideal.cos (θ ⟨e.val, h⟩) - x ⟨e.val + 64, by omega⟩ * Ideal.sin (θ ⟨e.val, h⟩)
  else x e * Ideal.cos (θ ⟨e.val - 64, by omega⟩) + x ⟨e.val - 64, by omega⟩ * Ideal.sin (θ ⟨e.val - 64, by omega⟩)

/-- The pairs turned as the call does it: every lane and its partner, the sines carrying the signs. -/
theorem turned_eq (x : Fin 128 → EReal) (θ : Fin 64 → EReal) (l : Fin 128) :
    x l * Ideal.cos (θ ⟨l.val % 64, by omega⟩) + x ⟨(l.val + 128 - 64) % 128, by omega⟩
        * (Ideal.sin (θ ⟨l.val % 64, by omega⟩) * if l.val < 64 then (-1 : EReal) else 1) = turned x θ l := by
  unfold turned
  by_cases h : l.val < 64
  · have e1 : (⟨l.val % 64, by omega⟩ : Fin 64) = ⟨l.val, h⟩ := Fin.ext (Nat.mod_eq_of_lt h)
    have e2 : (⟨(l.val + 128 - 64) % 128, by omega⟩ : Fin 128) = ⟨l.val + 64, by omega⟩ := Fin.ext (by dsimp only; omega)
    rw [if_pos h, dif_pos h, e1, e2, mul_neg, mul_one, mul_neg, sub_eq_add_neg]
  · have e1 : (⟨l.val % 64, by omega⟩ : Fin 64) = ⟨l.val - 64, by omega⟩ := Fin.ext (by dsimp only; omega)
    have e2 : (⟨(l.val + 128 - 64) % 128, by omega⟩ : Fin 128) = ⟨l.val - 64, by omega⟩ := Fin.ext (by dsimp only; omega)
    rw [if_neg h, dif_neg h, e1, e2, mul_one]

/-- The scale of the queries: one over the root of the head's width, in powers of two. -/
def scale : EReal := (((Real.sqrt 128)⁻¹ * (Real.log 2)⁻¹ : ℝ) : EReal)

end Cert.SparseQueries

namespace Cert.Reference10Ideal.Heads
open Cert.Reference10Ideal Cert.Reference10Ideal.Read Idealize.ShloMosaic Cert.Normed Cert.Heads Cert.SparseQueries

variable (x : S4x2048x4096.Idx → Elt Ideal .f32) (g : S4096.Idx → Elt Ideal .f32) (w : S4096x10400.Idx → Elt Ideal .f32)
  (P : S4x2048.Idx → Elt Ideal .i32) (b : Fin 4) (s : Fin 2048)

/-- The reference's product, its heads apart. -/
theorem heads_apply (h : Fin 32) (l : Fin 128) :
    val_main_v15 (F := Ideal) x g w (ix4 b s h l) = proj x g w b s ⟨128 * h.val + l.val, by omega⟩ := by
  have he : idx_main_v15 (ix4 b s h l) = ix3 b s ⟨128 * h.val + l.val, by omega⟩ := by
    blk_ext <;> omega
  rw [val_main_v15_apply, he]
  unfold proj normed rstd
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The frequencies' exponents, as the reference computes them. -/
theorem freq_ref (j : Fin 64) : Ideal.div (-FloatOps.sitofp (F := Ideal) FTy.f32 (IntOp.addi (0#32) (IntOp.muli (2#32) (BitVec.ofNat 32 j.val))))
    (Ideal.ofBits FTy.f32 0x43000000#32) = freq j := by
  have hc : Ideal.ofBits .f32 0x43000000#32 = ((128 : ℝ) : EReal) := by
    simp [Ideal.ofBits, Ideal.ieee, -EReal.coe_mul]; norm_num
  have hi : ∀ j : Fin 64, (IntOp.addi (0#32) (IntOp.muli (2#32) (BitVec.ofNat 32 j.val))).toInt = 2 * (j.val : ℤ) := by decide
  have hs : FloatOps.sitofp (F := Ideal) FTy.f32 (IntOp.addi (0#32) (IntOp.muli (2#32) (BitVec.ofNat 32 j.val))) = ((2 * (j.val : ℝ) : ℝ) : EReal) := by
    show (((IntOp.addi (0#32) (IntOp.muli (2#32) (BitVec.ofNat 32 j.val))).toInt : ℝ) : EReal) = _
    rw [hi]; push_cast; rfl
  rw [hc, hs, Ideal.div_coe (by norm_num), freq, ← EReal.coe_neg, ← EReal.coe_mul]
  congr 1
  ring

/-- The angles. -/
theorem ref_angle (j : Fin 64) : val_main_v32 (F := Ideal) P (ix3 b s j) = angle P b s j := by
  unfold angle
  rw [← freq_ref]
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_c, val_main_c_2,
    val_main_cst_3, val_main_cst_4]

/-- The heads turned. -/
theorem ref_turned (h : Fin 32) (l : Fin 128) : val_main_v48 (F := Ideal) x g w P (ix4 b s h l)
    = turned (fun l => proj x g w b s ⟨128 * h.val + l.val, by omega⟩) (angle P b s) l := by
  have hp : (fun l : Fin 128 => proj x g w b s ⟨128 * h.val + l.val, by omega⟩) = fun l => val_main_v15 (F := Ideal) x g w (ix4 b s h l) :=
    funext fun l => (heads_apply x g w b s h l).symm
  rw [hp]
  unfold turned
  simp only [← ref_angle]
  pointwise [val_main_v48, val_main_v47, val_main_v46, val_main_v45, val_main_v44, val_main_v43, val_main_v42, val_main_v41, val_main_v40,
    val_main_v39, val_main_v38, val_main_v37, val_main_v36, val_main_v35, val_main_v34, val_main_v33]
  refine dite_congr rfl (fun _ => ?_) fun _ => ?_
  · refine congrArg (_ - val_main_v15 (F := Ideal) x g w · * _) ?_
    blk_ext <;> omega
  · refine congrArg (val_main_v15 (F := Ideal) x g w · * _ + _) ?_
    blk_ext <;> omega

/-- The scale, as the reference computes it. -/
theorem scale_ref : Ideal.div (Ideal.div (1 : EReal) (Ideal.sqrt (Ideal.ofBits FTy.f32 0x43000000#32)))
    (Ideal.log (Ideal.ofBits FTy.f32 0x40000000#32)) = scale := by
  have hc : Ideal.ofBits .f32 0x43000000#32 = ((128 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [hc, h2, Ideal.sqrt_coe, if_neg (by norm_num), Ideal.log_coe, if_neg (by norm_num), Ideal.div_coe (ne_of_gt (Real.log_pos (by norm_num))),
    Ideal.div_coe (by positivity), one_mul, ← EReal.coe_mul, one_div, one_div]
  rfl

/-- The reference at an index. -/
theorem ref_apply (h : Fin 32) (l : Fin 128) : val_main_v56 (F := Ideal) x g w P (ix4 b h s l)
    = turned (fun l => proj x g w b s ⟨128 * h.val + l.val, by omega⟩) (angle P b s) l * scale := by
  rw [← ref_turned, ← scale_ref]
  pointwise [val_main_v56, val_main_v55, val_main_v54, val_main_v53, val_main_v52, val_main_v51, val_main_v50, val_main_v49, val_main_cst_5,
    val_main_cst_6, val_main_cst_7]

end Cert.Reference10Ideal.Heads

namespace Cert.Kernel10Ideal.Heads

open Cert.Kernel10Ideal Cert.Kernel10Ideal.Gen Idealize.ShloMosaic Idealize.ShloMosaic.TcCoe Idealize.SL.Sem
open Idealize.ShloMosaic.Pipeline (Dat)
open Cert.Rows Cert.Scalars Cert.Normed Cert.Heads Cert.SparseQueries
open Cert.KernelIdeal.Attention (first128 one_bits neg_one_bits)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![(grid0.coords t 1).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val / 2, (grid0.coords t 1).val, (grid0.coords t 0).val % 2, 0] :=
  (by decide +kernel : ∀ t : Fin grid0.N, _)

/-- The four arguments as launched. -/
abbrev argX (c : Dev nD) : S4x2048x4096.Idx → Elt Ideal .f32 := m ((c : Thread nD τ).loc main_arg0)
abbrev argG (c : Dev nD) : S4096.Idx → Elt Ideal .f32 := m ((c : Thread nD τ).loc main_arg1)
abbrev argW (c : Dev nD) : S4096x10400.Idx → Elt Ideal .f32 := m ((c : Thread nD τ).loc main_arg2)
abbrev argP (c : Dev nD) : S4x2048.Idx → Elt Ideal .i32 := m ((c : Thread nD τ).loc main_arg3)

section Point

variable (xb : S1024x4096.Idx → Elt Ideal .bf16) (wb : S512x4096.Idx → Elt Ideal .f32) (ss cs sn : S1024x128.Idx → Elt Ideal .f32)

/-- The product of the blocks a grid point holds, each row scaled by its factor afterwards. -/
theorem prod_apply (a : Fin 1024) (b : Fin 512) :
    k0_pay6 (F := Ideal) xb wb ss (ix2 a b) = ((∑ k, xb (ix2 a k) * wb (ix2 b k)) * factor fun l => ss (ix2 a l) : EReal) := by
  unfold factor
  pointwise [k0_pay6]

/-- Head `q` of the four a grid point computes: lanes `128 q` to `128 q + 127` of the product, turned and scaled. -/
def group (q : Fin 4) (a : Fin 1024) (l : Fin 128) : EReal :=
  (k0_pay6 (F := Ideal) xb wb ss (ix2 a ⟨128 * q.val + l.val, by omega⟩) * cs (ix2 a l)
    + k0_pay6 (F := Ideal) xb wb ss (ix2 a ⟨128 * q.val + (l.val + 128 - 64) % 128, by omega⟩) * sn (ix2 a l)) * scale

/-- The scale the call multiplies by, a name for the layer's. -/
theorem scale_eq : (Named.named (F := Ideal) κ "qscale" (φ := .f32) 0x3E0293EE#32 : EReal) = scale :=
  IdealRules.named_const.ideal_named_scalar _ _ _ _ rfl

theorem pay4_apply (a : Fin 1024) (l : Fin 128) : k0_pay4 (F := Ideal) cs (ix2 a l) = cs (ix2 a l) := by
  pointwise [k0_pay4]
theorem pay5_apply (a : Fin 1024) (l : Fin 128) : k0_pay5 (F := Ideal) sn (ix2 a l) = sn (ix2 a l) := by
  pointwise [k0_pay5]

theorem store0 (a : Fin 1024) (l : Fin 128) : k0_pay7 (F := Ideal) cs sn xb wb ss (ix4 0 0 a l) = group xb wb ss cs sn 0 a l := by
  unfold group
  rw [← scale_eq, ← pay4_apply cs, ← pay5_apply sn]
  generalize hy : k0_pay6 (F := Ideal) xb wb ss = y
  pointwise [k0_pay7]
  rw [hy]

theorem store1 (a : Fin 1024) (l : Fin 128) : k0_pay1 (F := Ideal) (k0_pay9 (F := Ideal) cs xb wb ss) (k0_pay10 (F := Ideal) sn xb wb ss) (ix4 0 0 a l) = group xb wb ss cs sn 1 a l := by
  unfold group
  rw [← scale_eq, ← pay4_apply cs, ← pay5_apply sn]
  generalize hy : k0_pay6 (F := Ideal) xb wb ss = y
  pointwise [k0_pay1, k0_pay9, k0_pay10, k0_pay8]
  rw [hy]

theorem store2 (a : Fin 1024) (l : Fin 128) :
    k0_pay2 (F := Ideal) (k0_pay4 (F := Ideal) cs) (k0_pay5 (F := Ideal) sn) (k0_pay6 (F := Ideal) xb wb ss) (ix4 0 0 a l) = group xb wb ss cs sn 2 a l := by
  unfold group
  rw [← scale_eq, ← pay4_apply cs, ← pay5_apply sn]
  pointwise [k0_pay2]

theorem store3 (a : Fin 1024) (l : Fin 128) :
    k0_pay3 (F := Ideal) (k0_pay4 (F := Ideal) cs) (k0_pay5 (F := Ideal) sn) (k0_pay6 (F := Ideal) xb wb ss) (ix4 0 0 a l) = group xb wb ss cs sn 3 a l := by
  unfold group
  rw [← scale_eq, ← pay4_apply cs, ← pay5_apply sn]
  pointwise [k0_pay3]

end Point

theorem V_x (c : Dev nD) (r : Fin 8192) (k : Fin 4096) : (V m c main_v4 : S8192x4096.Idx → Elt Ideal .bf16) (ix2 r k)
    = row (argX m c) r k * argG m c (ix1 k) := by
  unfold V row
  after_results
  pointwise

theorem V_w (c : Dev nD) (j : Fin 10400) (k : Fin 4096) : (V m c main_v69 : S10400x4096.Idx → Elt Ideal .f32) (ix2 j k) = argW m c (ix2 k j) := by
  unfold V
  after_results
  pointwise

theorem V_ss (c : Dev nD) (r : Fin 8192) (l : Fin 128) : (V m c main_v68 : S8192x128.Idx → Elt Ideal .f32) (ix2 r l)
    = (∑ s : Fin 32, row (argX m c) r (lane s l) * row (argX m c) r (lane s l) : EReal) := by
  simp only [Fin.sum_univ_castSucc, Fin.sum_univ_zero, zero_add]
  unfold V
  after_results
  pointwise
  unfold row lane
  simp [Nat.add_comm]

set_option maxHeartbeats 2000000 in
/-- The exponents' table. -/
theorem freq_tab : ∀ j : Fin 64, Ideal.ofBits .f32 (lit0 ⟨j.val, by omega⟩) = freq j := by
  intro j
  unfold freq
  fin_cases j <;> simp [lit0, Ideal.ofBits, Ideal.ieee, -EReal.coe_mul] <;> norm_num

theorem lit0_lane : ∀ l : Fin 128, lit0 l = lit0 ⟨l.val % 64, by omega⟩ := by decide +kernel
theorem lit1_eq : ∀ l : Fin 128, lit1 l = if l.val < 64 then 0xBF800000#32 else 0x3F800000#32 := by decide +kernel

/-- A row's angle at a lane, as the host computes it. -/
theorem angle_eq (c : Dev nD) (b : Fin 4) (s : Fin 2048) (l : Fin 128) :
    FloatOps.sitofp (F := Ideal) .f32 (argP m c (ix2 b s)) * Ideal.pow (Ideal.ofBits .f32 0x461C4000#32) (Ideal.ofBits .f32 (lit0 l))
      = angle (argP m c) b s ⟨l.val % 64, by omega⟩ := by
  unfold angle
  rw [lit0_lane, freq_tab ⟨l.val % 64, by omega⟩]

theorem V_cos (c : Dev nD) (b : Fin 4) (s : Fin 2048) (r : Fin 8192) (hr : r.val = 2048 * b.val + s.val) (l : Fin 128) :
    (V m c main_v78 : S8192x128.Idx → Elt Ideal .f32) (ix2 r l) = Ideal.cos (angle (argP m c) b s ⟨l.val % 64, by omega⟩) := by
  rw [← angle_eq]
  unfold V
  after_results
  pointwise
  refine congrArg₂ (fun p x => Ideal.cos (FloatOps.sitofp (F := Ideal) .f32 (argP m c p) * x)) (by blk_ext <;> omega)
    (congrArg (fun x : Fin 128 => Ideal.pow (Ideal.ofBits .f32 0x461C4000#32) (Ideal.ofBits .f32 (lit0 x))) (first128 l))

theorem V_sin (c : Dev nD) (b : Fin 4) (s : Fin 2048) (r : Fin 8192) (hr : r.val = 2048 * b.val + s.val) (l : Fin 128) :
    (V m c main_v82 : S8192x128.Idx → Elt Ideal .f32) (ix2 r l)
      = Ideal.sin (angle (argP m c) b s ⟨l.val % 64, by omega⟩) * if l.val < 64 then (-1 : EReal) else 1 := by
  have hs : (if l.val < 64 then (-1 : EReal) else 1) = Ideal.ofBits .f32 (lit1 l) := by
    rw [lit1_eq]
    split_ifs
    · exact neg_one_bits.symm
    · exact one_bits.symm
  rw [hs, ← angle_eq]
  unfold V
  after_results
  pointwise
  refine congrArg₂ (· * ·) (congrArg₂ (fun p x => Ideal.sin (FloatOps.sitofp (F := Ideal) .f32 (argP m c p) * x)) (by blk_ext <;> omega)
    (congrArg (fun x : Fin 128 => Ideal.pow (Ideal.ofBits .f32 0x461C4000#32) (Ideal.ofBits .f32 (lit0 x))) (first128 l)))
    (congrArg (fun x : Fin 128 => Ideal.ofBits .f32 (lit1 x)) (first128 l))

section Blocks

variable (c : Dev nD) (t : Fin cfg0.N) (a : Fin 1024) (r : Fin 8192) (hr : r.val = (grid0.coords t 0).val * 1024 + a.val)
include hr

theorem block_x (k : Fin 4096) : iblk m c 0 t (ix2 a k) = row (argX m c) r k * argG m c (ix1 k) := by
  rw [← V_x]
  blk_ext [iblk, idx t]

theorem block_ss (l : Fin 128) : iblk m c 2 t (ix2 a l)
    = (∑ s : Fin 32, row (argX m c) r (lane s l) * row (argX m c) r (lane s l) : EReal) := by
  rw [← V_ss]
  blk_ext [iblk, idx t]

theorem block_cos (b : Fin 4) (s : Fin 2048) (hb : r.val = 2048 * b.val + s.val) (l : Fin 128) :
    iblk m c 3 t (ix2 a l) = Ideal.cos (angle (argP m c) b s ⟨l.val % 64, by omega⟩) := by
  rw [← V_cos m c b s r hb]
  blk_ext [iblk, idx t]

theorem block_sin (b : Fin 4) (s : Fin 2048) (hb : r.val = 2048 * b.val + s.val) (l : Fin 128) :
    iblk m c 4 t (ix2 a l) = Ideal.sin (angle (argP m c) b s ⟨l.val % 64, by omega⟩) * if l.val < 64 then (-1 : EReal) else 1 := by
  rw [← V_sin m c b s r hb]
  blk_ext [iblk, idx t]

end Blocks

theorem block_w (c : Dev nD) (t : Fin cfg0.N) (b : Fin 512) (j : Fin 10400) (hj : j.val = (grid0.coords t 1).val * 512 + b.val) (k : Fin 4096) :
    X0_1 m c t (ix2 b k) = argW m c (ix2 k j) := by
  unfold X0_1 Pipeline.Window.fill
  rw [dif_pos (moved0_1 t _), ← V_w]
  blk_ext [iblk, idx t]

/-- The product at a grid point, in the arguments. -/
theorem prod_eq (c : Dev nD) (t : Fin cfg0.N) (a : Fin 1024) (b : Fin 4) (s : Fin 2048)
    (hr : 2048 * b.val + s.val = (grid0.coords t 0).val * 1024 + a.val) (n : Fin 512) (j : Fin 10400) (hj : j.val = (grid0.coords t 1).val * 512 + n.val) :
    k0_pay6 (F := Ideal) (iblk m c 0 t) (X0_1 m c t) (iblk m c 2 t) (ix2 a n) = proj (argX m c) (argG m c) (argW m c) b s j := by
  refine (prod_apply _ _ _ a n).trans ?_
  simp only [fun k => block_x m c t a ⟨2048 * b.val + s.val, by omega⟩ hr k, fun l => block_ss m c t a ⟨2048 * b.val + s.val, by omega⟩ hr l,
    fun k => block_w m c t n j hj k]
  exact proj_eq _ _ _ b s _ rfl j

/-- A head at a grid point, in the arguments. -/
theorem group_eq (c : Dev nD) (t : Fin cfg0.N) (a : Fin 1024) (l : Fin 128) (q : Fin 4) (b : Fin 4) (s : Fin 2048) (h : Fin 32)
    (hr : 2048 * b.val + s.val = (grid0.coords t 0).val * 1024 + a.val) (hh : h.val = (grid0.coords t 1).val * 4 + q.val) :
    group (iblk m c 0 t) (X0_1 m c t) (iblk m c 2 t) (iblk m c 3 t) (iblk m c 4 t) q a l
      = turned (fun l => proj (argX m c) (argG m c) (argW m c) b s ⟨128 * h.val + l.val, by omega⟩) (angle (argP m c) b s) l * scale := by
  unfold group
  rw [← turned_eq, prod_eq m c t a b s hr _ ⟨128 * h.val + l.val, by omega⟩ (by dsimp only; omega),
    prod_eq m c t a b s hr _ ⟨128 * h.val + (l.val + 128 - 64) % 128, by omega⟩ (by dsimp only; omega),
    block_cos m c t a ⟨2048 * b.val + s.val, by omega⟩ hr b s rfl, block_sin m c t a ⟨2048 * b.val + s.val, by omega⟩ hr b s rfl]

/-- What a grid point leaves in the block it writes. -/
theorem out_apply (c : Dev nD) (t : Fin cfg0.N) (q : Fin 4) (a : Fin 1024) (l : Fin 128) :
    (outsAt0 m c t : S1x4x1024x128.Idx → Elt Ideal .bf16) (ix4 0 q a l)
      = group (iblk m c 0 t) (X0_1 m c t) (iblk m c 2 t) (iblk m c 3 t) (iblk m c 4 t) q a l := by
  unfold outsAt0
  frame_out
  generalize (iblk m c 0 t : Vec Ideal S1024x4096 .bf16) = xb
  generalize (X0_1 m c t : Vec Ideal S512x4096 .f32) = wb
  generalize (iblk m c 2 t : Vec Ideal S1024x128 .f32) = ss
  generalize (iblk m c 3 t : Vec Ideal S1024x128 .f32) = cs
  generalize (iblk m c 4 t : Vec Ideal S1024x128 .f32) = sn
  canon_tiles x h
  all_goals
    have hx : x = ix4 0 0 a l := by
      funext k; fin_cases k
      · exact Fin.ext (by show (x 0).val = 0; omega)
      · exact Fin.ext (by show (x 1).val = 0; omega)
      · exact Fin.ext h2.symm
      · exact Fin.ext h3.symm
    have h1' : q.val = _ := h1
    have hq : ∀ n : Fin 4, q.val = n.val → group xb wb ss cs sn n a l = group xb wb ss cs sn q a l := fun n hn => by rw [Fin.ext hn]
    rw [hx]
  · exact (store3 xb wb ss cs sn a l).trans (hq 3 (by show q.val = 3; omega))
  · exact (store2 xb wb ss cs sn a l).trans (hq 2 (by show q.val = 2; omega))
  · exact (store1 xb wb ss cs sn a l).trans (hq 1 (by show q.val = 1; omega))
  · exact (store0 xb wb ss cs sn a l).trans (hq 0 (by show q.val = 0; omega))

/-- The result array is the reference's. -/
theorem final (c : Dev nD) : (dats m 0 c).arrAt 5 cfg0.N
    = Cert.Reference10Ideal.Read.val_main_v56 (F := Ideal) (argX m c) (argG m c) (argW m c) (argP m c) := by
  refine (dats m 0 c).arrAt_eq_of_covers 5 _ (by decide +kernel) fun t hf (y : S1x4x1024x128.Idx) => ?_
  have h0 : (grid0.coords t 0).val < 8 := (grid0.coords t 0).isLt
  have h1 : (grid0.coords t 1).val < 8 := (grid0.coords t 1).isLt
  obtain ⟨q, a, l, rfl⟩ : ∃ (q : Fin 4) (a : Fin 1024) (l : Fin 128), y = ix4 0 q a l := ⟨y 1, y 2, y 3, by blk_ext⟩
  have he : ((cfg0.win 5).blk t).view.emb (ix4 0 q a l)
      = ix4 (⟨(grid0.coords t 0).val / 2, by omega⟩ : Fin 4) (⟨(grid0.coords t 1).val * 4 + q.val, by omega⟩ : Fin 32)
          (⟨(grid0.coords t 0).val % 2 * 1024 + a.val, by omega⟩ : Fin 2048) l := by
    blk_ext [idx t]
  refine Eq.trans ?_ ((congrArg _ he).trans (Cert.Reference10Ideal.Heads.ref_apply _ _ _ _ _ _ _ _)).symm
  blk_simp
  rw [after0_5]
  exact (out_apply m c t q a l).trans (group_eq m c t a l q _ _ _ (by dsimp only; omega) rfl)

end Cert.Kernel10Ideal.Heads

namespace Cert.Proof.SparseQueries

/-- The call and the reference leave the same array, from any arguments. -/
theorem algebraic : Cert.algebraic_Kernel10Ideal_Reference10Ideal := by
  pair_intro
  · run_from Cert.Kernel10Ideal.Value.run_blocks m g
  · run_from Cert.Reference10Ideal.Value.run m' g'
    rw [Cert.Kernel10Ideal.Heads.final m c]
    refine (Cert.Reference10Ideal.Read.val_main_v56_eq m' c).trans ?_
    obtain ⟨h0, h1, h2, h3⟩ := hagree c
    rw [h0, h1, h2, h3]

end Cert.Proof.SparseQueries
end
-- ==== Proof.SparseValues.lean ====
/- The sparse attention's values (`Kernel11`): the normalised rows times columns 5120 to 6143 of the mixer's matrix, each head's
   128 lanes down a column and 16 lanes of ones below them. -/
module

public import proofs.«01_k».proof.Defs
public import proofs.«01_k».proof.Proof.Gen.Kernel11Ideal.Value
public import proofs.«01_k».proof.Proof.Gen.Reference11Ideal.Read
public import proofs.«01_k».proof.Proof.Heads
public import Idealize.ShloMosaic.Lib.Pointwise
public import Idealize.ShloMosaic.Lib.Pipeline.ValueKit
public import Idealize.ShloMosaic.Lib.Claim

@[expose] public section

set_option maxRecDepth 16384

noncomputable section

namespace Cert.Reference11Ideal.Heads
open Cert.Reference11Ideal Cert.Reference11Ideal.Read Idealize.ShloMosaic Cert.Normed Cert.Heads

variable (x : S4x2048x4096.Idx → Elt Ideal .f32) (g : S4096.Idx → Elt Ideal .f32) (w : S4096x10400.Idx → Elt Ideal .f32)
  (b : Fin 4) (s : Fin 2048)

/-- The reference's product, its heads apart. -/
theorem heads_apply (h : Fin 8) (l : Fin 128) :
    val_main_v15 (F := Ideal) x g w (ix4 b s h l) = proj x g w b s ⟨5120 + (128 * h.val + l.val), by omega⟩ := by
  have he : idx_main_v15 (ix4 b s h l) = ix3 b s ⟨128 * h.val + l.val, by omega⟩ := by
    blk_ext <;> omega
  rw [val_main_v15_apply, he]
  unfold proj normed rstd
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem one_bf16 : Ideal.ofBits .bf16 0x3F80#16 = 1 := by
  simp [Ideal.ofBits, Ideal.ieee, -EReal.coe_mul]; norm_num

/-- The reference at an index. -/
theorem ref_apply (h : Fin 8) (e : Fin 144) : val_main_v19 (F := Ideal) x g w (ix4 b h e s)
    = if he : e.val < 128 then proj x g w b s ⟨5120 + (128 * h.val + e.val), by omega⟩ else 1 := by
  have hp : ∀ he : e.val < 128, proj x g w b s ⟨5120 + (128 * h.val + e.val), by omega⟩ = val_main_v15 (F := Ideal) x g w (ix4 b s h ⟨e.val, he⟩) :=
    fun he => (heads_apply x g w b s h ⟨e.val, he⟩).symm
  pointwise [val_main_v19, val_main_v18, val_main_v17, val_main_v16, val_main_cst_2]
  exact dite_congr rfl (fun he => (hp he).symm) fun _ => rfl

end Cert.Reference11Ideal.Heads

namespace Cert.Kernel11Ideal.Heads

open Cert.Kernel11Ideal Cert.Kernel11Ideal.Gen Idealize.ShloMosaic Idealize.ShloMosaic.TcCoe Idealize.SL.Sem
open Idealize.ShloMosaic.Pipeline (Dat)
open Cert.Rows Cert.Scalars Cert.Normed Cert.Heads
open Cert.Reference11Ideal.Heads (one_bf16)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![10 + (grid0.coords t 1).val, 0]
    ∧ win0_2.index t = ![(grid0.coords t 0).val, 0]
    ∧ win0_3.index t = ![(grid0.coords t 0).val / 2, (grid0.coords t 1).val, 0, (grid0.coords t 0).val % 2] :=
  (by decide +kernel : ∀ t : Fin grid0.N, _)

/-- The three arguments as launched. -/
abbrev argX (c : Dev nD) : S4x2048x4096.Idx → Elt Ideal .f32 := m ((c : Thread nD τ).loc main_arg0)
abbrev argG (c : Dev nD) : S4096.Idx → Elt Ideal .f32 := m ((c : Thread nD τ).loc main_arg1)
abbrev argW (c : Dev nD) : S4096x10400.Idx → Elt Ideal .f32 := m ((c : Thread nD τ).loc main_arg2)

section Point

variable (xb : S1024x4096.Idx → Elt Ideal .bf16) (wb : S512x4096.Idx → Elt Ideal .f32) (ss : S1024x128.Idx → Elt Ideal .f32)

/-- The product of the blocks a grid point holds, each row scaled by its factor afterwards. -/
theorem prod_apply (a : Fin 1024) (b : Fin 512) :
    k0_pay6 (F := Ideal) xb wb ss (ix2 a b) = ((∑ k, xb (ix2 a k) * wb (ix2 b k)) * factor fun l => ss (ix2 a l) : EReal) := by
  unfold factor
  pointwise [k0_pay6]

/-- Head `q` of the four a grid point computes: lanes `128 q` to `128 q + 127` of the product, and lanes of one. -/
def group (q : Fin 4) (e : Fin 144) (a : Fin 1024) : EReal :=
  if he : e.val < 128 then k0_pay6 (F := Ideal) xb wb ss (ix2 a ⟨128 * q.val + e.val, by omega⟩) else 1

theorem group_lane (q : Fin 4) (e : Fin 144) (a : Fin 1024) (n : Fin 4) (l : Fin 128) (hq : q.val = n.val) (he : e.val = l.val) :
    k0_pay6 (F := Ideal) xb wb ss (ix2 a ⟨128 * n.val + l.val, by omega⟩) = group xb wb ss q e a := by
  unfold group
  rw [dif_pos (by omega)]
  exact congrArg (fun j => k0_pay6 (F := Ideal) xb wb ss (ix2 a j)) (Fin.ext (by dsimp only; omega))

theorem group_one (q : Fin 4) (e : Fin 144) (a : Fin 1024) (he : 128 ≤ e.val) : (1 : EReal) = group xb wb ss q e a := by
  unfold group
  rw [dif_neg (by omega)]

theorem store0 (a : Fin 1024) (l : Fin 128) :
    k0_pay7 (F := Ideal) xb wb ss (ix4 0 0 l a) = k0_pay6 (F := Ideal) xb wb ss (ix2 a ⟨128 * (0 : Fin 4).val + l.val, by omega⟩) := by
  generalize hy : k0_pay6 (F := Ideal) xb wb ss = y
  pointwise [k0_pay7]
  rw [hy]

theorem store1 (a : Fin 1024) (l : Fin 128) :
    k0_pay9 (F := Ideal) xb wb ss (ix4 0 0 l a) = k0_pay6 (F := Ideal) xb wb ss (ix2 a ⟨128 * (1 : Fin 4).val + l.val, by omega⟩) := by
  generalize hy : k0_pay6 (F := Ideal) xb wb ss = y
  pointwise [k0_pay9]
  rw [hy]

theorem store2 (a : Fin 1024) (l : Fin 128) :
    k0_pay2 (F := Ideal) (k0_pay6 (F := Ideal) xb wb ss) (ix4 0 0 l a) = k0_pay6 (F := Ideal) xb wb ss (ix2 a ⟨128 * (2 : Fin 4).val + l.val, by omega⟩) := by
  pointwise [k0_pay2]

theorem store3 (a : Fin 1024) (l : Fin 128) :
    k0_pay4 (F := Ideal) (k0_pay6 (F := Ideal) xb wb ss) (ix4 0 0 l a) = k0_pay6 (F := Ideal) xb wb ss (ix2 a ⟨128 * (3 : Fin 4).val + l.val, by omega⟩) := by
  pointwise [k0_pay4]

theorem ones0 (a : Fin 1024) (o : Fin 16) : k0_pay8 (F := Ideal) (ix4 0 0 o a) = (1 : EReal) := by
  rw [← one_bf16]
  pointwise [k0_pay8]

theorem ones1 (a : Fin 1024) (o : Fin 16) : k0_pay1 (F := Ideal) (ix4 0 0 o a) = (1 : EReal) := by
  rw [← one_bf16]
  pointwise [k0_pay1]

theorem ones2 (a : Fin 1024) (o : Fin 16) : k0_pay3 (F := Ideal) (ix4 0 0 o a) = (1 : EReal) := by
  rw [← one_bf16]
  pointwise [k0_pay3]

theorem ones3 (a : Fin 1024) (o : Fin 16) : k0_pay5 (F := Ideal) (ix4 0 0 o a) = (1 : EReal) := by
  rw [← one_bf16]
  pointwise [k0_pay5]

end Point

theorem V_x (c : Dev nD) (r : Fin 8192) (k : Fin 4096) : (V m c main_v4 : S8192x4096.Idx → Elt Ideal .bf16) (ix2 r k)
    = row (argX m c) r k * argG m c (ix1 k) := by
  unfold V
  unfold row
  after_results
  pointwise

theorem V_w (c : Dev nD) (j : Fin 10400) (k : Fin 4096) : (V m c main_v69 : S10400x4096.Idx → Elt Ideal .f32) (ix2 j k) = argW m c (ix2 k j) := by
  unfold V
  after_results
  pointwise

theorem V_ss (c : Dev nD) (r : Fin 8192) (l : Fin 128) : (V m c main_v68 : S8192x128.Idx → Elt Ideal .f32) (ix2 r l)
    = (∑ s : Fin 32, row (argX m c) r (lane s l) * row (argX m c) r (lane s l) : EReal) := by
  simp only [Fin.sum_univ_castSucc, Fin.sum_univ_zero, zero_add]
  unfold V
  after_results
  pointwise
  unfold row lane
  simp [Nat.add_comm]

section Blocks

variable (c : Dev nD) (t : Fin cfg0.N) (a : Fin 1024) (r : Fin 8192) (hr : r.val = (grid0.coords t 0).val * 1024 + a.val)
include hr

theorem block_x (k : Fin 4096) : iblk m c 0 t (ix2 a k) = row (argX m c) r k * argG m c (ix1 k) := by
  rw [← V_x]
  blk_ext [iblk, idx t]

theorem block_ss (l : Fin 128) : iblk m c 2 t (ix2 a l)
    = (∑ s : Fin 32, row (argX m c) r (lane s l) * row (argX m c) r (lane s l) : EReal) := by
  rw [← V_ss]
  blk_ext [iblk, idx t]

end Blocks

theorem block_w (c : Dev nD) (t : Fin cfg0.N) (b : Fin 512) (j : Fin 10400) (hj : j.val = (10 + (grid0.coords t 1).val) * 512 + b.val) (k : Fin 4096) :
    X0_1 m c t (ix2 b k) = argW m c (ix2 k j) := by
  unfold X0_1 Pipeline.Window.fill
  rw [dif_pos (moved0_1 t _), ← V_w]
  blk_ext [iblk, idx t]

/-- The product at a grid point, in the arguments. -/
theorem prod_eq (c : Dev nD) (t : Fin cfg0.N) (a : Fin 1024) (b : Fin 4) (s : Fin 2048)
    (hr : 2048 * b.val + s.val = (grid0.coords t 0).val * 1024 + a.val) (n : Fin 512) (j : Fin 10400) (hj : j.val = (10 + (grid0.coords t 1).val) * 512 + n.val) :
    k0_pay6 (F := Ideal) (iblk m c 0 t) (X0_1 m c t) (iblk m c 2 t) (ix2 a n) = proj (argX m c) (argG m c) (argW m c) b s j := by
  refine (prod_apply _ _ _ a n).trans ?_
  simp only [fun k => block_x m c t a ⟨2048 * b.val + s.val, by omega⟩ hr k, fun l => block_ss m c t a ⟨2048 * b.val + s.val, by omega⟩ hr l,
    fun k => block_w m c t n j hj k]
  exact proj_eq _ _ _ b s _ rfl j

/-- A head at a grid point, in the arguments. -/
theorem group_eq (c : Dev nD) (t : Fin cfg0.N) (a : Fin 1024) (e : Fin 144) (q : Fin 4) (b : Fin 4) (s : Fin 2048) (h : Fin 8)
    (hr : 2048 * b.val + s.val = (grid0.coords t 0).val * 1024 + a.val) (hh : h.val = (grid0.coords t 1).val * 4 + q.val) :
    group (iblk m c 0 t) (X0_1 m c t) (iblk m c 2 t) q e a
      = if he : e.val < 128 then proj (argX m c) (argG m c) (argW m c) b s ⟨5120 + (128 * h.val + e.val), by omega⟩ else 1 := by
  unfold group
  exact dite_congr rfl (fun he => prod_eq m c t a b s hr _ _ (by dsimp only; omega)) fun _ => rfl

/-- What a grid point leaves in the block it writes. -/
theorem out_apply (c : Dev nD) (t : Fin cfg0.N) (q : Fin 4) (e : Fin 144) (a : Fin 1024) :
    (outsAt0 m c t : S1x4x144x1024.Idx → Elt Ideal .bf16) (ix4 0 q e a) = group (iblk m c 0 t) (X0_1 m c t) (iblk m c 2 t) q e a := by
  unfold outsAt0
  frame_out
  generalize (iblk m c 0 t : Vec Ideal S1024x4096 .bf16) = xb
  generalize (X0_1 m c t : Vec Ideal S512x4096 .f32) = wb
  generalize (iblk m c 2 t : Vec Ideal S1024x128 .f32) = ss
  canon_tiles x h using View.cover_of_tiledBy _ ![1, 1, 16, 1024] (by sl_kernel_rfl) _
  all_goals
    have h1' : q.val = _ := h1
    have h2' : e.val = _ := h2
    have hx : x = ix4 0 0 (x 2) a := by
      funext k; fin_cases k
      · exact Fin.ext (by show (x 0).val = 0; omega)
      · exact Fin.ext (by show (x 1).val = 0; omega)
      · rfl
      · exact Fin.ext h3.symm
    rw [hx]
  · exact (ones3 a _).trans (group_one xb wb ss q e a (by omega))
  · exact (store3 xb wb ss a _).trans (group_lane xb wb ss q e a 3 _ (by show q.val = 3; omega) (by omega))
  · exact (ones2 a _).trans (group_one xb wb ss q e a (by omega))
  · exact (store2 xb wb ss a _).trans (group_lane xb wb ss q e a 2 _ (by show q.val = 2; omega) (by omega))
  · exact (ones1 a _).trans (group_one xb wb ss q e a (by omega))
  · exact (store1 xb wb ss a _).trans (group_lane xb wb ss q e a 1 _ (by show q.val = 1; omega) (by omega))
  · exact (ones0 a _).trans (group_one xb wb ss q e a (by omega))
  · exact (store0 xb wb ss a _).trans (group_lane xb wb ss q e a 0 _ (by show q.val = 0; omega) (by omega))

/-- The result array is the reference's. -/
theorem final (c : Dev nD) : (dats m 0 c).arrAt 3 cfg0.N
    = Cert.Reference11Ideal.Read.val_main_v19 (F := Ideal) (argX m c) (argG m c) (argW m c) := by
  refine (dats m 0 c).arrAt_eq_of_covers 3 _ (by decide +kernel) fun t hf (y : S1x4x144x1024.Idx) => ?_
  have h0 : (grid0.coords t 0).val < 8 := (grid0.coords t 0).isLt
  have h1 : (grid0.coords t 1).val < 2 := (grid0.coords t 1).isLt
  obtain ⟨q, e, a, rfl⟩ : ∃ (q : Fin 4) (e : Fin 144) (a : Fin 1024), y = ix4 0 q e a := ⟨y 1, y 2, y 3, by blk_ext⟩
  have he : ((cfg0.win 3).blk t).view.emb (ix4 0 q e a)
      = ix4 (⟨(grid0.coords t 0).val / 2, by omega⟩ : Fin 4) (⟨(grid0.coords t 1).val * 4 + q.val, by omega⟩ : Fin 8) e
          (⟨(grid0.coords t 0).val % 2 * 1024 + a.val, by omega⟩ : Fin 2048) := by
    blk_ext [idx t]
  refine Eq.trans ?_ ((congrArg _ he).trans (Cert.Reference11Ideal.Heads.ref_apply _ _ _ _ _ _ _)).symm
  blk_simp
  rw [after0_3]
  exact (out_apply m c t q e a).trans (group_eq m c t a e q _ _ _ (by dsimp only; omega) rfl)

end Cert.Kernel11Ideal.Heads

namespace Cert.Proof.SparseValues

/-- The call and the reference leave the same array, from any arguments. -/
theorem algebraic : Cert.algebraic_Kernel11Ideal_Reference11Ideal := by
  pair_intro
  · run_from Cert.Kernel11Ideal.Value.run_blocks m g
  · run_from Cert.Reference11Ideal.Value.run m' g'
    rw [Cert.Kernel11Ideal.Heads.final m c]
    refine (Cert.Reference11Ideal.Read.val_main_v19_eq _ _ _).trans ?_
    rw [(hagree c).2.2]

end Cert.Proof.SparseValues
end
-- ==== Proof.IndexQueries.lean ====
/- The indexer's queries (`Kernel12`): the normalised rows times columns 6144 to 10239 of the mixer's matrix, the first 64
   lanes of each head of 128 turned by its row's position, the heads' axis before the rows'. -/
module

public import proofs.«01_k».proof.Defs
public import proofs.«01_k».proof.Proof.Gen.Kernel12Ideal.Value
public import proofs.«01_k».proof.Proof.Gen.Reference12Ideal.Read
public import proofs.«01_k».proof.Proof.Attention.Host
public import proofs.«01_k».proof.Proof.Attention.Reference
public import proofs.«01_k».proof.Proof.Heads
public import Idealize.ShloMosaic.Lib.Pointwise
public import Idealize.ShloMosaic.Lib.Pipeline.ValueKit
public import Idealize.ShloMosaic.Lib.Claim

@[expose] public section

set_option maxRecDepth 16384

noncomputable section

namespace Cert.IndexQueries

open Idealize.ShloMosaic Cert.Attention

/-- A head's 128 lanes, the first 64 turned and the others kept. -/
def led (x : Fin 128 → EReal) (θ : Fin 32 → EReal) (l : Fin 128) : EReal :=
  if h : l.val < 64 then turned (fun e => x ⟨e.val, by omega⟩) θ ⟨l.val, h⟩ else x l

/-- The lanes turned as the call does it: every lane, the lane 32 before it and the lane 32 after it, each times a table that
    is zero where the lane has no part. -/
theorem led_eq (x : Fin 128 → EReal) (θ : Fin 32 → EReal) (l : Fin 128) :
    x l * (if l.val < 64 then Ideal.cos (θ ⟨l.val % 32, by omega⟩) else 1)
      + x ⟨(l.val + 128 - 32) % 128, by omega⟩ * (if 32 ≤ l.val ∧ l.val < 64 then Ideal.sin (θ ⟨l.val % 32, by omega⟩) else 0)
      + x ⟨(l.val + 128 - 96) % 128, by omega⟩ * (if l.val < 32 then Ideal.sin (θ ⟨l.val % 32, by omega⟩) * (-1) else 0) = led x θ l := by
  unfold led turned
  by_cases h : l.val < 64
  · rw [dif_pos h, if_pos h]
    by_cases h2 : l.val < 32
    · have e1 : (⟨l.val % 32, by omega⟩ : Fin 32) = ⟨l.val, h2⟩ := Fin.ext (Nat.mod_eq_of_lt h2)
      have e2 : (⟨(l.val + 128 - 96) % 128, by omega⟩ : Fin 128) = ⟨l.val + 32, by omega⟩ := Fin.ext (by dsimp only; omega)
      rw [if_neg (by omega), if_pos h2, dif_pos h2, e1, e2, mul_zero, add_zero, mul_neg, mul_one, mul_neg, sub_eq_add_neg]
    · have e1 : (⟨l.val % 32, by omega⟩ : Fin 32) = ⟨l.val - 32, by omega⟩ := Fin.ext (by dsimp only; omega)
      have e2 : (⟨(l.val + 128 - 32) % 128, by omega⟩ : Fin 128) = ⟨l.val - 32, by omega⟩ := Fin.ext (by dsimp only; omega)
      rw [if_pos ⟨by omega, h⟩, if_neg h2, dif_neg h2, e1, e2, mul_zero, add_zero]
  · rw [dif_neg h, if_neg h, if_neg (by omega), if_neg (by omega), mul_one, mul_zero, mul_zero, add_zero, add_zero]

end Cert.IndexQueries

namespace Cert.Reference12Ideal.Heads
open Cert.Reference12Ideal Cert.Reference12Ideal.Read Idealize.ShloMosaic Cert.Normed Cert.Heads Cert.Attention Cert.IndexQueries
open Cert.ReferenceIdeal.Attention (freq_ref)

variable (x : S4x2048x4096.Idx → Elt Ideal .f32) (g : S4096.Idx → Elt Ideal .f32) (w : S4096x10400.Idx → Elt Ideal .f32)
  (P : S4x2048.Idx → Elt Ideal .i32) (b : Fin 4) (s : Fin 2048)

/-- The reference's product, its heads apart. -/
theorem heads_apply (h : Fin 32) (l : Fin 128) :
    val_main_v15 (F := Ideal) x g w (ix4 b s h l) = proj x g w b s ⟨6144 + (128 * h.val + l.val), by omega⟩ := by
  have he : idx_main_v15 (ix4 b s h l) = ix3 b s ⟨128 * h.val + l.val, by omega⟩ := by
    blk_ext <;> omega
  rw [val_main_v15_apply, he]
  unfold proj normed rstd
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The angles. -/
theorem ref_angle (j : Fin 32) : val_main_v33 (F := Ideal) P (ix3 b s j) = angle P b s j := by
  unfold angle
  rw [← freq_ref]
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_c, val_main_c_2,
    val_main_cst_3, val_main_cst_4]

/-- The lanes turned. -/
theorem ref_turned (h : Fin 32) (e : Fin 64) : val_main_v49 (F := Ideal) x g w P (ix4 b s h e)
    = turned (fun e => val_main_v16 (F := Ideal) x g w (ix4 b s h e)) (angle P b s) e := by
  unfold turned
  simp only [← ref_angle]
  pointwise [val_main_v49, val_main_v48, val_main_v47, val_main_v46, val_main_v45, val_main_v44, val_main_v43, val_main_v42, val_main_v41,
    val_main_v40, val_main_v39, val_main_v38, val_main_v37, val_main_v36, val_main_v35, val_main_v34]
  refine dite_congr rfl (fun _ => ?_) fun _ => ?_
  · refine congrArg (_ - val_main_v16 (F := Ideal) x g w · * _) ?_
    blk_ext <;> omega
  · refine congrArg (val_main_v16 (F := Ideal) x g w · * _ + _) ?_
    blk_ext <;> omega

/-- The reference at an index. -/
theorem ref_apply (h : Fin 32) (l : Fin 128) : val_main_v53 (F := Ideal) x g w P (ix4 b h s l)
    = led (fun l => proj x g w b s ⟨6144 + (128 * h.val + l.val), by omega⟩) (angle P b s) l := by
  have hp : (fun l : Fin 128 => proj x g w b s ⟨6144 + (128 * h.val + l.val), by omega⟩) = fun l => val_main_v15 (F := Ideal) x g w (ix4 b s h l) :=
    funext fun l => (heads_apply x g w b s h l).symm
  have hl : (fun e : Fin 64 => val_main_v15 (F := Ideal) x g w (ix4 b s h ⟨e.val, by omega⟩)) = fun e => val_main_v16 (F := Ideal) x g w (ix4 b s h e) :=
    funext fun e => by pointwise [val_main_v16]
  rw [hp]
  unfold led
  dsimp only
  simp only [hl, ← ref_turned]
  pointwise [val_main_v53, val_main_v52, val_main_v51, val_main_v50]
  refine dite_congr rfl (fun _ => rfl) fun _ => ?_
  refine congrArg (val_main_v15 (F := Ideal) x g w) ?_
  blk_ext <;> omega

end Cert.Reference12Ideal.Heads

namespace Cert.Kernel12Ideal.Heads

open Cert.Kernel12Ideal Cert.Kernel12Ideal.Gen Idealize.ShloMosaic Idealize.ShloMosaic.TcCoe Idealize.SL.Sem
open Idealize.ShloMosaic.Pipeline (Dat)
open Cert.Rows Cert.Scalars Cert.Normed Cert.Heads Cert.Attention Cert.IndexQueries
open Cert.KernelIdeal.Attention (first128 one_bits neg_one_bits zero_bits)

variable (m : (ℓ : Loc nD τ sig) → Buf (Elt Ideal) ℓ)

/-- Which block of its array each window holds at a grid point. -/
theorem idx : ∀ t : Fin cfg0.N, win0_0.index t = ![(grid0.coords t 0).val, 0] ∧ win0_1.index t = ![12 + (grid0.coords t 1).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val, 0]
    ∧ win0_6.index t = ![(grid0.coords t 0).val / 2, (grid0.coords t 1).val, (grid0.coords t 0).val % 2, 0] :=
  (by decide +kernel : ∀ t : Fin grid0.N, _)

/-- The four arguments as launched. -/
abbrev argX (c : Dev nD) : S4x2048x4096.Idx → Elt Ideal .f32 := m ((c : Thread nD τ).loc main_arg0)
abbrev argG (c : Dev nD) : S4096.Idx → Elt Ideal .f32 := m ((c : Thread nD τ).loc main_arg1)
abbrev argW (c : Dev nD) : S4096x10400.Idx → Elt Ideal .f32 := m ((c : Thread nD τ).loc main_arg2)
abbrev argP (c : Dev nD) : S4x2048.Idx → Elt Ideal .i32 := m ((c : Thread nD τ).loc main_arg3)

section Point

variable (xb : S1024x4096.Idx → Elt Ideal .bf16) (wb : S512x4096.Idx → Elt Ideal .f32) (ss cs bk ah : S1024x128.Idx → Elt Ideal .f32)

/-- The product of the blocks a grid point holds, each row scaled by its factor afterwards. -/
theorem prod_apply (a : Fin 1024) (b : Fin 512) :
    k0_pay5 (F := Ideal) xb wb ss (ix2 a b) = ((∑ k, xb (ix2 a k) * wb (ix2 b k)) * factor fun l => ss (ix2 a l) : EReal) := by
  unfold factor
  pointwise [k0_pay5]

/-- Head `q` of the four a grid point computes: lanes `128 q` to `128 q + 127` of the product, turned. -/
def group (q : Fin 4) (a : Fin 1024) (l : Fin 128) : EReal :=
  k0_pay5 (F := Ideal) xb wb ss (ix2 a ⟨128 * q.val + l.val, by omega⟩) * cs (ix2 a l)
    + k0_pay5 (F := Ideal) xb wb ss (ix2 a ⟨128 * q.val + (l.val + 128 - 32) % 128, by omega⟩) * bk (ix2 a l)
    + k0_pay5 (F := Ideal) xb wb ss (ix2 a ⟨128 * q.val + (l.val + 128 - 96) % 128, by omega⟩) * ah (ix2 a l)

theorem pay2_apply (a : Fin 1024) (l : Fin 128) : k0_pay2 (F := Ideal) cs (ix2 a l) = cs (ix2 a l) := by
  pointwise [k0_pay2]
theorem pay3_apply (a : Fin 1024) (l : Fin 128) : k0_pay3 (F := Ideal) bk (ix2 a l) = bk (ix2 a l) := by
  pointwise [k0_pay3]
theorem pay4_apply (a : Fin 1024) (l : Fin 128) : k0_pay4 (F := Ideal) ah (ix2 a l) = ah (ix2 a l) := by
  pointwise [k0_pay4]

theorem store0 (a : Fin 1024) (l : Fin 128) : k0_pay7 (F := Ideal) (k0_pay6 (F := Ideal) cs bk ah xb wb ss) (ix4 0 0 a l) = group xb wb ss cs bk ah 0 a l := by
  rw [← mul_one (group _ _ _ _ _ _ _ _ _), ← one_bits]
  unfold group
  rw [← pay2_apply cs, ← pay3_apply bk, ← pay4_apply ah]
  generalize hy : k0_pay5 (F := Ideal) xb wb ss = y
  pointwise [k0_pay7, k0_pay6]
  rw [hy]

theorem store1 (a : Fin 1024) (l : Fin 128) :
    k0_pay8 (F := Ideal) (k0_pay2 (F := Ideal) cs) (k0_pay3 (F := Ideal) bk) (k0_pay4 (F := Ideal) ah) (k0_pay5 (F := Ideal) xb wb ss) (ix4 0 0 a l)
      = group xb wb ss cs bk ah 1 a l := by
  rw [← mul_one (group _ _ _ _ _ _ _ _ _), ← one_bits]
  unfold group
  rw [← pay2_apply cs, ← pay3_apply bk, ← pay4_apply ah]
  pointwise [k0_pay8]

theorem store2 (a : Fin 1024) (l : Fin 128) :
    k0_pay9 (F := Ideal) (k0_pay2 (F := Ideal) cs) (k0_pay3 (F := Ideal) bk) (k0_pay4 (F := Ideal) ah) (k0_pay5 (F := Ideal) xb wb ss) (ix4 0 0 a l)
      = group xb wb ss cs bk ah 2 a l := by
  rw [← mul_one (group _ _ _ _ _ _ _ _ _), ← one_bits]
  unfold group
  rw [← pay2_apply cs, ← pay3_apply bk, ← pay4_apply ah]
  pointwise [k0_pay9]

theorem store3 (a : Fin 1024) (l : Fin 128) :
    k0_pay1 (F := Ideal) (k0_pay10 (F := Ideal) (k0_pay2 (F := Ideal) cs) (k0_pay3 (F := Ideal) bk) (k0_pay4 (F := Ideal) ah) (k0_pay5 (F := Ideal) xb wb ss)) (ix4 0 0 a l)
      = group xb wb ss cs bk ah 3 a l := by
  rw [← mul_one (group _ _ _ _ _ _ _ _ _), ← one_bits]
  unfold group
  rw [← pay2_apply cs, ← pay3_apply bk, ← pay4_apply ah]
  pointwise [k0_pay1, k0_pay10]

end Point

theorem V_x (c : Dev nD) (r : Fin 8192) (k : Fin 4096) : (V m c main_v4 : S8192x4096.Idx → Elt Ideal .bf16) (ix2 r k)
    = row (argX m c) r k * argG m c (ix1 k) := by
  simp only [V, hostOps0, hostOps0_1, hostOps0_2, List.flatten_cons, List.flatten_nil, List.append_nil, List.cons_append, List.nil_append]
  unfold row
  after_results
  pointwise

theorem V_w (c : Dev nD) (j : Fin 10400) (k : Fin 4096) : (V m c main_v69 : S10400x4096.Idx → Elt Ideal .f32) (ix2 j k) = argW m c (ix2 k j) := by
  simp only [V, hostOps0, hostOps0_1, hostOps0_2, List.flatten_cons, List.flatten_nil, List.append_nil, List.cons_append, List.nil_append]
  after_results
  pointwise

theorem V_ss (c : Dev nD) (r : Fin 8192) (l : Fin 128) : (V m c main_v68 : S8192x128.Idx → Elt Ideal .f32) (ix2 r l)
    = (∑ s : Fin 32, row (argX m c) r (lane s l) * row (argX m c) r (lane s l) : EReal) := by
  simp only [Fin.sum_univ_castSucc, Fin.sum_univ_zero, zero_add]
  simp only [V, hostOps0, hostOps0_1, hostOps0_2, List.flatten_cons, List.flatten_nil, List.append_nil, List.cons_append, List.nil_append]
  after_results
  pointwise
  unfold row lane
  simp [Nat.add_comm]

/-- The exponents' table. -/
theorem freq_tab : ∀ j : Fin 32, Ideal.ofBits .f32 (lit0 ⟨j.val, by omega⟩) = freq j := by
  intro j
  unfold freq
  fin_cases j <;> simp [lit0, Ideal.ofBits, Ideal.ieee, -EReal.coe_mul] <;> norm_num

theorem lit0_lane : ∀ l : Fin 128, lit0 l = lit0 ⟨l.val % 32, by omega⟩ := by decide +kernel
theorem lit1_eq : ∀ l : Fin 128, lit1 l = if l.val < 64 then 1 else 0 := by decide +kernel
theorem lit2_eq : ∀ l : Fin 128, lit2 l = if 32 ≤ l.val ∧ l.val < 64 then 0x3F800000#32 else 0 := by decide +kernel
theorem lit3_eq : ∀ l : Fin 128, lit3 l = if l.val < 32 then 0xBF800000#32 else 0 := by decide +kernel

/-- A row's angle at a lane, as the host computes it. -/
def hostAngle (c : Dev nD) (b : Fin 4) (s : Fin 2048) (l : Fin 128) : EReal :=
  FloatOps.sitofp (F := Ideal) .f32 (argP m c (ix2 b s))
    * Scalar.select (lit1 l) (Ideal.pow (Ideal.ofBits .f32 0x461C4000#32) (Ideal.ofBits .f32 (lit0 l))) (Ideal.ofBits .f32 0x00000000#32)

theorem angle_lead (c : Dev nD) (b : Fin 4) (s : Fin 2048) (l : Fin 128) (hl : l.val < 64) :
    hostAngle m c b s l = angle (argP m c) b s ⟨l.val % 32, by omega⟩ := by
  unfold hostAngle angle
  rw [lit1_eq, if_pos hl, lit0_lane, freq_tab ⟨l.val % 32, by omega⟩]
  rfl

theorem angle_rest (c : Dev nD) (b : Fin 4) (s : Fin 2048) (l : Fin 128) (hl : ¬ l.val < 64) : hostAngle m c b s l = 0 := by
  unfold hostAngle
  rw [lit1_eq, if_neg hl]
  refine (congrArg (_ * ·) (show _ = (0 : EReal) from zero_bits)).trans (mul_zero _)

section Tables

variable (c : Dev nD) (b : Fin 4) (s : Fin 2048) (r : Fin 8192) (hr : r.val = 2048 * b.val + s.val) (l : Fin 128)
include hr

theorem V_cos : (V m c main_v80 : S8192x128.Idx → Elt Ideal .f32) (ix2 r l)
    = if l.val < 64 then Ideal.cos (angle (argP m c) b s ⟨l.val % 32, by omega⟩) else (1 : EReal) := by
  have h : (V m c main_v80 : S8192x128.Idx → Elt Ideal .f32) (ix2 r l) = Ideal.cos (hostAngle m c b s l) := by
    simp only [V, hostOps0, hostOps0_1, hostOps0_2, List.flatten_cons, List.flatten_nil, List.append_nil, List.cons_append, List.nil_append]
    after_results
    pointwise
    exact congrArg₂ (fun p x => Ideal.cos (FloatOps.sitofp (F := Ideal) .f32 (argP m c p) * x)) (by blk_ext <;> omega)
      (congrArg (fun x : Fin 128 => Scalar.select (lit1 x)
        (Ideal.pow (Ideal.ofBits .f32 0x461C4000#32) (Ideal.ofBits .f32 (lit0 x))) (Ideal.ofBits .f32 0x00000000#32)) (first128 l))
  rw [h]
  split_ifs with hl
  · rw [angle_lead m c b s l hl]
  · rw [angle_rest m c b s l hl, ← EReal.coe_zero, Ideal.cos_coe, Real.cos_zero, EReal.coe_one]

theorem V_back : (V m c main_v83 : S8192x128.Idx → Elt Ideal .f32) (ix2 r l)
    = if 32 ≤ l.val ∧ l.val < 64 then Ideal.sin (angle (argP m c) b s ⟨l.val % 32, by omega⟩) else (0 : EReal) := by
  have h : (V m c main_v83 : S8192x128.Idx → Elt Ideal .f32) (ix2 r l) = Ideal.sin (hostAngle m c b s l) * Ideal.ofBits .f32 (lit2 l) := by
    simp only [V, hostOps0, hostOps0_1, hostOps0_2, List.flatten_cons, List.flatten_nil, List.append_nil, List.cons_append, List.nil_append]
    after_results
    pointwise
    exact congrArg₂ (· * ·) (congrArg₂ (fun p x => Ideal.sin (FloatOps.sitofp (F := Ideal) .f32 (argP m c p) * x)) (by blk_ext <;> omega)
      (congrArg (fun x : Fin 128 => Scalar.select (lit1 x)
        (Ideal.pow (Ideal.ofBits .f32 0x461C4000#32) (Ideal.ofBits .f32 (lit0 x))) (Ideal.ofBits .f32 0x00000000#32)) (first128 l)))
      (congrArg (fun x : Fin 128 => Ideal.ofBits .f32 (lit2 x)) (first128 l))
  rw [h, lit2_eq]
  split_ifs with hl
  · rw [angle_lead m c b s l hl.2, one_bits, mul_one]
  · rw [zero_bits, mul_zero]

theorem V_ahead : (V m c main_v86 : S8192x128.Idx → Elt Ideal .f32) (ix2 r l)
    = if l.val < 32 then Ideal.sin (angle (argP m c) b s ⟨l.val % 32, by omega⟩) * (-1) else (0 : EReal) := by
  have h : (V m c main_v86 : S8192x128.Idx → Elt Ideal .f32) (ix2 r l) = Ideal.sin (hostAngle m c b s l) * Ideal.ofBits .f32 (lit3 l) := by
    simp only [V, hostOps0, hostOps0_1, hostOps0_2, List.flatten_cons, List.flatten_nil, List.append_nil, List.cons_append, List.nil_append]
    after_results
    pointwise
    exact congrArg₂ (· * ·) (congrArg₂ (fun p x => Ideal.sin (FloatOps.sitofp (F := Ideal) .f32 (argP m c p) * x)) (by blk_ext <;> omega)
      (congrArg (fun x : Fin 128 => Scalar.select (lit1 x)
        (Ideal.pow (Ideal.ofBits .f32 0x461C4000#32) (Ideal.ofBits .f32 (lit0 x))) (Ideal.ofBits .f32 0x00000000#32)) (first128 l)))
      (congrArg (fun x : Fin 128 => Ideal.ofBits .f32 (lit3 x)) (first128 l))
  rw [h, lit3_eq]
  split_ifs with hl
  · rw [angle_lead m c b s l (by omega), neg_one_bits]
  · rw [zero_bits, mul_zero]

end Tables

section Blocks

variable (c : Dev nD) (t : Fin cfg0.N) (a : Fin 1024) (r : Fin 8192) (hr : r.val = (grid0.coords t 0).val * 1024 + a.val)
include hr

theorem block_x (k : Fin 4096) : iblk m c 0 t (ix2 a k) = row (argX m c) r k * argG m c (ix1 k) := by
  rw [← V_x]
  blk_ext [iblk, idx t]

theorem block_ss (l : Fin 128) : iblk m c 2 t (ix2 a l)
    = (∑ s : Fin 32, row (argX m c) r (lane s l) * row (argX m c) r (lane s l) : EReal) := by
  rw [← V_ss]
  blk_ext [iblk, idx t]

variable (b : Fin 4) (s : Fin 2048) (hb : r.val = 2048 * b.val + s.val) (l : Fin 128)
include hb

theorem block_cos : iblk m c 3 t (ix2 a l) = if l.val < 64 then Ideal.cos (angle (argP m c) b s ⟨l.val % 32, by omega⟩) else (1 : EReal) := by
  rw [← V_cos m c b s r hb]
  blk_ext [iblk, idx t]

theorem block_back : iblk m c 4 t (ix2 a l)
    = if 32 ≤ l.val ∧ l.val < 64 then Ideal.sin (angle (argP m c) b s ⟨l.val % 32, by omega⟩) else (0 : EReal) := by
  rw [← V_back m c b s r hb]
  blk_ext [iblk, idx t]

theorem block_ahead : iblk m c 5 t (ix2 a l)
    = if l.val < 32 then Ideal.sin (angle (argP m c) b s ⟨l.val % 32, by omega⟩) * (-1) else (0 : EReal) := by
  rw [← V_ahead m c b s r hb]
  blk_ext [iblk, idx t]

end Blocks

theorem block_w (c : Dev nD) (t : Fin cfg0.N) (b : Fin 512) (j : Fin 10400) (hj : j.val = (12 + (grid0.coords t 1).val) * 512 + b.val) (k : Fin 4096) :
    X0_1 m c t (ix2 b k) = argW m c (ix2 k j) := by
  unfold X0_1 Pipeline.Window.fill
  rw [dif_pos (moved0_1 t _), ← V_w]
  blk_ext [iblk, idx t]

/-- The product at a grid point, in the arguments. -/
theorem prod_eq (c : Dev nD) (t : Fin cfg0.N) (a : Fin 1024) (b : Fin 4) (s : Fin 2048)
    (hr : 2048 * b.val + s.val = (grid0.coords t 0).val * 1024 + a.val) (n : Fin 512) (j : Fin 10400) (hj : j.val = (12 + (grid0.coords t 1).val) * 512 + n.val) :
    k0_pay5 (F := Ideal) (iblk m c 0 t) (X0_1 m c t) (iblk m c 2 t) (ix2 a n) = proj (argX m c) (argG m c) (argW m c) b s j := by
  refine (prod_apply _ _ _ a n).trans ?_
  simp only [fun k => block_x m c t a ⟨2048 * b.val + s.val, by omega⟩ hr k, fun l => block_ss m c t a ⟨2048 * b.val + s.val, by omega⟩ hr l,
    fun k => block_w m c t n j hj k]
  exact proj_eq _ _ _ b s _ rfl j

/-- A head at a grid point, in the arguments. -/
theorem group_eq (c : Dev nD) (t : Fin cfg0.N) (a : Fin 1024) (l : Fin 128) (q : Fin 4) (b : Fin 4) (s : Fin 2048) (h : Fin 32)
    (hr : 2048 * b.val + s.val = (grid0.coords t 0).val * 1024 + a.val) (hh : h.val = (grid0.coords t 1).val * 4 + q.val) :
    group (iblk m c 0 t) (X0_1 m c t) (iblk m c 2 t) (iblk m c 3 t) (iblk m c 4 t) (iblk m c 5 t) q a l
      = led (fun l => proj (argX m c) (argG m c) (argW m c) b s ⟨6144 + (128 * h.val + l.val), by omega⟩) (angle (argP m c) b s) l := by
  unfold group
  rw [← led_eq, prod_eq m c t a b s hr _ ⟨6144 + (128 * h.val + l.val), by omega⟩ (by dsimp only; omega),
    prod_eq m c t a b s hr _ ⟨6144 + (128 * h.val + (l.val + 128 - 32) % 128), by omega⟩ (by dsimp only; omega),
    prod_eq m c t a b s hr _ ⟨6144 + (128 * h.val + (l.val + 128 - 96) % 128), by omega⟩ (by dsimp only; omega),
    block_cos m c t a ⟨2048 * b.val + s.val, by omega⟩ hr b s rfl, block_back m c t a ⟨2048 * b.val + s.val, by omega⟩ hr b s rfl,
    block_ahead m c t a ⟨2048 * b.val + s.val, by omega⟩ hr b s rfl]

/-- What a grid point leaves in the block it writes. -/
theorem out_apply (c : Dev nD) (t : Fin cfg0.N) (q : Fin 4) (a : Fin 1024) (l : Fin 128) :
    (outsAt0 m c t : S1x4x1024x128.Idx → Elt Ideal .bf16) (ix4 0 q a l)
      = group (iblk m c 0 t) (X0_1 m c t) (iblk m c 2 t) (iblk m c 3 t) (iblk m c 4 t) (iblk m c 5 t) q a l := by
  unfold outsAt0
  frame_out
  generalize (iblk m c 0 t : Vec Ideal S1024x4096 .bf16) = xb
  generalize (X0_1 m c t : Vec Ideal S512x4096 .f32) = wb
  generalize (iblk m c 2 t : Vec Ideal S1024x128 .f32) = ss
  generalize (iblk m c 3 t : Vec Ideal S1024x128 .f32) = cs
  generalize (iblk m c 4 t : Vec Ideal S1024x128 .f32) = bk
  generalize (iblk m c 5 t : Vec Ideal S1024x128 .f32) = ah
  canon_tiles x h
  all_goals
    have hx : x = ix4 0 0 a l := by
      funext k; fin_cases k
      · exact Fin.ext (by show (x 0).val = 0; omega)
      · exact Fin.ext (by show (x 1).val = 0; omega)
      · exact Fin.ext h2.symm
      · exact Fin.ext h3.symm
    have h1' : q.val = _ := h1
    have hq : ∀ n : Fin 4, q.val = n.val → group xb wb ss cs bk ah n a l = group xb wb ss cs bk ah q a l := fun n hn => by rw [Fin.ext hn]
    rw [hx]
  · exact (store3 xb wb ss cs bk ah a l).trans (hq 3 (by show q.val = 3; omega))
  · exact (store2 xb wb ss cs bk ah a l).trans (hq 2 (by show q.val = 2; omega))
  · exact (store1 xb wb ss cs bk ah a l).trans (hq 1 (by show q.val = 1; omega))
  · exact (store0 xb wb ss cs bk ah a l).trans (hq 0 (by show q.val = 0; omega))

/-- The result array is the reference's. -/
theorem final (c : Dev nD) : (dats m 0 c).arrAt 6 cfg0.N
    = Cert.Reference12Ideal.Read.val_main_v53 (F := Ideal) (argX m c) (argG m c) (argW m c) (argP m c) := by
  refine (dats m 0 c).arrAt_eq_of_covers 6 _ (by decide +kernel) fun t hf (y : S1x4x1024x128.Idx) => ?_
  have h0 : (grid0.coords t 0).val < 8 := (grid0.coords t 0).isLt
  have h1 : (grid0.coords t 1).val < 8 := (grid0.coords t 1).isLt
  obtain ⟨q, a, l, rfl⟩ : ∃ (q : Fin 4) (a : Fin 1024) (l : Fin 128), y = ix4 0 q a l := ⟨y 1, y 2, y 3, by blk_ext⟩
  have he : ((cfg0.win 6).blk t).view.emb (ix4 0 q a l)
      = ix4 (⟨(grid0.coords t 0).val / 2, by omega⟩ : Fin 4) (⟨(grid0.coords t 1).val * 4 + q.val, by omega⟩ : Fin 32)
          (⟨(grid0.coords t 0).val % 2 * 1024 + a.val, by omega⟩ : Fin 2048) l := by
    blk_ext [idx t]
  refine Eq.trans ?_ ((congrArg _ he).trans (Cert.Reference12Ideal.Heads.ref_apply _ _ _ _ _ _ _ _)).symm
  blk_simp
  rw [after0_6]
  exact (out_apply m c t q a l).trans (group_eq m c t a l q _ _ _ (by dsimp only; omega) rfl)

end Cert.Kernel12Ideal.Heads

namespace Cert.Proof.IndexQueries

/-- The call and the reference leave the same array, from any arguments. -/
theorem algebraic : Cert.algebraic_Kernel12Ideal_Reference12Ideal := by
  pair_intro
  · run_from Cert.Kernel12Ideal.Value.run_blocks m g
  · run_from Cert.Reference12Ideal.Value.run m' g'
    rw [Cert.Kernel12Ideal.Heads.final m c]
    refine (Cert.Reference12Ideal.Read.val_main_v53_eq m' c).trans ?_
    obtain ⟨h0, h1, h2, h3⟩ := hagree c
    rw [h0, h1, h2, h3]

end Cert.Proof.IndexQueries
end
-- ==== Proof.lean ====
/- The claim, assembled: the programs' stated facts, each program's frame as generated, and each call's value theorem from
   the module that proves it. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Attention
public import proofs.«01_k».proof.Proof.FfnUp
public import proofs.«01_k».proof.Proof.FfnDown
public import proofs.«01_k».proof.Proof.OutProj
public import proofs.«01_k».proof.Proof.FinalNorm
public import proofs.«01_k».proof.Proof.Receptance
public import proofs.«01_k».proof.Proof.Latents
public import proofs.«01_k».proof.Proof.Queries
public import proofs.«01_k».proof.Proof.KeysValues
public import proofs.«01_k».proof.Proof.SparseQueries
public import proofs.«01_k».proof.Proof.SparseValues
public import proofs.«01_k».proof.Proof.IndexQueries

@[expose] public section

noncomputable section

namespace Cert.Proof

open Idealize.ShloMosaic Idealize.SL.Sem

/-- The attention's idealization names two constants, the mask's value and the query's scale; each name is given its
    value. -/
theorem preserves_attention : Cert.preserves_Kernel_KernelIdeal :=
  ⟨IdealRules.named_const.statement Cert.KernelIdeal.κ "qscale" .f32 0x3DD53B95#32 _ rfl,
    IdealRules.named_const.statement Cert.KernelIdeal.κ "mask" .f32 0xF149F2CA#32 _ rfl⟩

/-- The sparse queries' idealization names one constant, their scale. -/
theorem preserves_sparse : Cert.preserves_Kernel10_Kernel10Ideal :=
  IdealRules.named_const.statement Cert.Kernel10Ideal.κ "qscale" .f32 0x3E0293EE#32 _ rfl

/-! A reference is a host program with no semaphore: its run ends with its arguments unchanged and every counter at zero. -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, fun m ρ _ => frame_reference m ρ trivial, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    preserves_attention, Attention.algebraic,
    trivial, FfnUp.algebraic, trivial, FfnDown.algebraic, trivial, OutProj.algebraic, trivial, FinalNorm.algebraic, trivial, Receptance.algebraic,
    trivial, Latents.algebraic, trivial, Queries.algebraic, trivial, KeysValues.algebraic,
    preserves_sparse, SparseQueries.algebraic, trivial, SparseValues.algebraic, trivial, IndexQueries.algebraic⟩

end Cert.Proof

end
